-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S2x4x64x256 : Shape := ⟨4, ![2, 4, 64, 256]⟩
abbrev S24 : Shape := ⟨1, ![24]⟩
abbrev S_ : Shape := ⟨0, ![]⟩
abbrev S64x2048 : Shape := ⟨2, ![64, 2048]⟩
abbrev S2048x256 : Shape := ⟨2, ![2048, 256]⟩
abbrev S64x256 : Shape := ⟨2, ![64, 256]⟩
abbrev S1x1x64x256 : Shape := ⟨4, ![1, 1, 64, 256]⟩
abbrev S1 : Shape := ⟨1, ![1]⟩
abbrev S256x2048 : Shape := ⟨2, ![256, 2048]⟩

abbrev nBuf : Space → Nat
  | .hbm => 8
  | .vmem => 10
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S64x1024, .f32⟩
  | .local _ .vmem, ⟨0, _⟩ => ⟨S64x1024, .f32⟩
  | .local _ .vmem, ⟨1, _⟩ => ⟨S1024x2048, .f32⟩
  | .local _ .vmem, ⟨2, _⟩ => ⟨S2048x1024, .f32⟩
  | .local _ .vmem, ⟨3, _⟩ => ⟨S1024x2048, .f32⟩
  | .local _ .vmem, ⟨4, _⟩ => ⟨S2048x1024, .f32⟩
  | .local _ .vmem, ⟨5, _⟩ => ⟨S1024x2048, .f32⟩
  | .local _ .vmem, ⟨6, _⟩ => ⟨S2048x1024, .f32⟩
  | .local _ .vmem, ⟨7, _⟩ => ⟨S64x1024, .f32⟩
  | .local _ .vmem, ⟨8, _⟩ => ⟨S2x4x64x256, .f32⟩
  | .local _ .vmem, ⟨9, _⟩ => ⟨S2x4x64x256, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_23 : BitVec 32 := 1#32
  let v23 : BitVec 32 := Scalar.muli v3 c1_i32_23
  let v24 : BitVec 32 := Scalar.addi c0_i32_24 v23
  v24.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_40 : BitVec 32 := 1#32
  let v39 : BitVec 32 := Scalar.muli v3 c1_i32_40
  let v40 : BitVec 32 := Scalar.addi c0_i32_41 v39
  v40.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_57 : BitVec 32 := 1#32
  let v55 : BitVec 32 := Scalar.muli v3 c1_i32_57
  let v56 : BitVec 32 := Scalar.addi c0_i32_58 v55
  v56.toNat
def k0_dev6 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_74 : BitVec 32 := 1#32
  let v71 : BitVec 32 := Scalar.muli v3 c1_i32_74
  let v72 : BitVec 32 := Scalar.addi c0_i32_75 v71
  v72.toNat
def k0_dev7 (d0 : Dev nD) : Nat :=
  let c0_i32_118 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_117 : BitVec 32 := 1#32
  let v101 : BitVec 32 := Scalar.muli v4 c1_i32_117
  let v102 : BitVec 32 := Scalar.addi c0_i32_118 v101
  v102.toNat
def k0_dev8 (d0 : Dev nD) : Nat :=
  let c0_i32_160 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_159 : BitVec 32 := 1#32
  let v131 : BitVec 32 := Scalar.muli v4 c1_i32_159
  let v132 : BitVec 32 := Scalar.addi c0_i32_160 v131
  v132.toNat
def k0_dev9 (d0 : Dev nD) : Nat :=
  let c0_i32_202 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_201 : BitVec 32 := 1#32
  let v161 : BitVec 32 := Scalar.muli v4 c1_i32_201
  let v162 : BitVec 32 := Scalar.addi c0_i32_202 v161
  v162.toNat
def k0_dev10 (d0 : Dev nD) : Nat :=
  let c0_i32_244 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_243 : BitVec 32 := 1#32
  let v191 : BitVec 32 := Scalar.muli v4 c1_i32_243
  let v192 : BitVec 32 := Scalar.addi c0_i32_244 v191
  v192.toNat
def k0_dev11 (d0 : Dev nD) : Nat :=
  let c0_i32_372 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_371 : BitVec 32 := 1#32
  let v286 : BitVec 32 := Scalar.muli v3 c1_i32_371
  let v287 : BitVec 32 := Scalar.addi c0_i32_372 v286
  v287.toNat
def k0_dev12 (d0 : Dev nD) : Nat :=
  let c0_i32_375 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_374 : BitVec 32 := 1#32
  let v288 : BitVec 32 := Scalar.muli v4 c1_i32_374
  let v289 : BitVec 32 := Scalar.addi c0_i32_375 v288
  v289.toNat
def k0_dev13 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_390 : BitVec 32 := 1#32
  let v296 : BitVec 32 := Scalar.muli v3 c1_i32_390
  let v297 : BitVec 32 := Scalar.addi c0_i32_391 v296
  v297.toNat
def k0_dev14 (d0 : Dev nD) : Nat :=
  let c0_i32_409 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_408 : BitVec 32 := 1#32
  let v312 : BitVec 32 := Scalar.muli v3 c1_i32_408
  let v313 : BitVec 32 := Scalar.addi c0_i32_409 v312
  v313.toNat
def k0_dev15 (d0 : Dev nD) : Nat :=
  let c0_i32_427 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_426 : BitVec 32 := 1#32
  let v328 : BitVec 32 := Scalar.muli v3 c1_i32_426
  let v329 : BitVec 32 := Scalar.addi c0_i32_427 v328
  v329.toNat
def k0_dev16 (d0 : Dev nD) : Nat :=
  let c0_i32_445 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_444 : BitVec 32 := 1#32
  let v344 : BitVec 32 := Scalar.muli v3 c1_i32_444
  let v345 : BitVec 32 := Scalar.addi c0_i32_445 v344
  v345.toNat
def k0_dev17 (d0 : Dev nD) : Nat :=
  let c0_i32_487 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_486 : BitVec 32 := 1#32
  let v374 : BitVec 32 := Scalar.muli v4 c1_i32_486
  let v375 : BitVec 32 := Scalar.addi c0_i32_487 v374
  v375.toNat
def k0_dev18 (d0 : Dev nD) : Nat :=
  let c0_i32_529 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_528 : BitVec 32 := 1#32
  let v404 : BitVec 32 := Scalar.muli v4 c1_i32_528
  let v405 : BitVec 32 := Scalar.addi c0_i32_529 v404
  v405.toNat
def k0_dev19 (d0 : Dev nD) : Nat :=
  let c0_i32_571 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_570 : BitVec 32 := 1#32
  let v434 : BitVec 32 := Scalar.muli v4 c1_i32_570
  let v435 : BitVec 32 := Scalar.addi c0_i32_571 v434
  v435.toNat
def k0_dev20 (d0 : Dev nD) : Nat :=
  let c0_i32_613 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_612 : BitVec 32 := 1#32
  let v464 : BitVec 32 := Scalar.muli v4 c1_i32_612
  let v465 : BitVec 32 := Scalar.addi c0_i32_613 v464
  v465.toNat
def k0_dev21 (d0 : Dev nD) : Nat :=
  let c0_i32_741 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_740 : BitVec 32 := 1#32
  let v559 : BitVec 32 := Scalar.muli v3 c1_i32_740
  let v560 : BitVec 32 := Scalar.addi c0_i32_741 v559
  v560.toNat
def k0_dev22 (d0 : Dev nD) : Nat :=
  let c0_i32_744 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_743 : BitVec 32 := 1#32
  let v561 : BitVec 32 := Scalar.muli v4 c1_i32_743
  let v562 : BitVec 32 := Scalar.addi c0_i32_744 v561
  v562.toNat
def k0_dev23 (d0 : Dev nD) : Nat :=
  let c0_i32_760 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_759 : BitVec 32 := 1#32
  let v569 : BitVec 32 := Scalar.muli v3 c1_i32_759
  let v570 : BitVec 32 := Scalar.addi c0_i32_760 v569
  v570.toNat
def k0_dev24 (d0 : Dev nD) : Nat :=
  let c0_i32_778 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_777 : BitVec 32 := 1#32
  let v585 : BitVec 32 := Scalar.muli v3 c1_i32_777
  let v586 : BitVec 32 := Scalar.addi c0_i32_778 v585
  v586.toNat
def k0_dev25 (d0 : Dev nD) : Nat :=
  let c0_i32_796 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_795 : BitVec 32 := 1#32
  let v601 : BitVec 32 := Scalar.muli v3 c1_i32_795
  let v602 : BitVec 32 := Scalar.addi c0_i32_796 v601
  v602.toNat
def k0_dev26 (d0 : Dev nD) : Nat :=
  let c0_i32_814 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_813 : BitVec 32 := 1#32
  let v617 : BitVec 32 := Scalar.muli v3 c1_i32_813
  let v618 : BitVec 32 := Scalar.addi c0_i32_814 v617
  v618.toNat
def k0_dev27 (d0 : Dev nD) : Nat :=
  let c0_i32_856 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_855 : BitVec 32 := 1#32
  let v647 : BitVec 32 := Scalar.muli v4 c1_i32_855
  let v648 : BitVec 32 := Scalar.addi c0_i32_856 v647
  v648.toNat
def k0_dev28 (d0 : Dev nD) : Nat :=
  let c0_i32_898 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_897 : BitVec 32 := 1#32
  let v677 : BitVec 32 := Scalar.muli v4 c1_i32_897
  let v678 : BitVec 32 := Scalar.addi c0_i32_898 v677
  v678.toNat
def k0_dev29 (d0 : Dev nD) : Nat :=
  let c0_i32_940 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_939 : BitVec 32 := 1#32
  let v707 : BitVec 32 := Scalar.muli v4 c1_i32_939
  let v708 : BitVec 32 := Scalar.addi c0_i32_940 v707
  v708.toNat
def k0_dev30 (d0 : Dev nD) : Nat :=
  let c0_i32_982 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_981 : BitVec 32 := 1#32
  let v737 : BitVec 32 := Scalar.muli v4 c1_i32_981
  let v738 : BitVec 32 := Scalar.addi c0_i32_982 v737
  v738.toNat
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S64x1024 : Shape := ⟨2, ![64, 1024]⟩
abbrev S1024x8192 : Shape := ⟨2, ![1024, 8192]⟩
abbrev S8192x1024 : Shape := ⟨2, ![8192, 1024]⟩
abbrev S64x8192 : Shape := ⟨2, ![64, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S1024x8192, .f32⟩
  | .hbm, ⟨2, _⟩ => ⟨S1024x8192, .f32⟩
  | .hbm, ⟨3, _⟩ => ⟨S1024x8192, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S64x8192, .f32⟩
  | .hbm, ⟨8, _⟩ => ⟨S_, .f32⟩
  | .hbm, ⟨9, _⟩ => ⟨S64x8192, .f32⟩
  | .hbm, ⟨10, _⟩ => ⟨S64x8192, .f32⟩
  | .hbm, ⟨11, _⟩ => ⟨S64x1024, .f32⟩
  | .hbm, ⟨12, _⟩ => ⟨S64x8192, .f32⟩
  | .hbm, ⟨13, _⟩ => ⟨S_, .f32⟩
  | .hbm, ⟨14, _⟩ => ⟨S64x8192, .f32⟩
  | .hbm, ⟨15, _⟩ => ⟨S64x8192, .f32⟩
  | .hbm, ⟨16, _⟩ => ⟨S64x1024, .f32⟩
  | .hbm, ⟨17, _⟩ => ⟨S64x8192, .f32⟩
  | .hbm, ⟨18, _⟩ => ⟨S_, .f32⟩
  | .hbm, ⟨19, _⟩ => ⟨S64x8192, .f32⟩
  | .hbm, ⟨20, _⟩ => ⟨S64x8192, .f32⟩
  | .hbm, ⟨21, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.KernelIdealSteps.lean ====
/-
# The kernel's body as a sequence of layers

The printed body is one straight line of some two thousand statements. Here it is written again with the source's own
structure — the handshake, one exchange of a chunk (store it, copy it to the partner), the two waits for it, and the
four stretches of a layer — and shown to be the printed body.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen
open Idealize.ShloMosaic Idealize.ShloMosaic.TcCoe
open Idealize.SL.Sem

variable {F : FTy → Type} [FloatOps F]

/-! ## The buffers and semaphores -/

abbrev sndM : Memref sig .tc .vmem S2x4x64x256 .f32 := Memref.whole cc0_scratch0
abbrev rcvM : Memref sig .tc .vmem S2x4x64x256 .f32 := Memref.whole cc0_scratch1
abbrev xM : Memref sig .tc .vmem S64x1024 .f32 := Memref.whole cc0_stg0_0
abbrev outM : Memref sig .tc .vmem S64x1024 .f32 := Memref.whole cc0_stg7_0

/-- The staged first matrix of layer `l`. -/
abbrev winM : Fin 3 → Memref sig .tc .vmem S1024x2048 .f32
  | 0 => Memref.whole cc0_stg1_0 | 1 => Memref.whole cc0_stg3_0 | 2 => Memref.whole cc0_stg5_0
/-- The staged second matrix of layer `l`. -/
abbrev woutM : Fin 3 → Memref sig .tc .vmem S2048x1024 .f32
  | 0 => Memref.whole cc0_stg2_0 | 1 => Memref.whole cc0_stg4_0 | 2 => Memref.whole cc0_stg6_0

theorem slot_inb (st : Fin 2) (ch : Fin 4) :
    ∀ a, (![st.val, ch.val, 0, 0] : Fin 4 → ℕ) a + S1x1x64x256.size a ≤ S2x4x64x256.size a := by
  revert st ch; decide
theorem col_inb (ch : Fin 4) : ∀ a, (![0, ch.val * 256] : Fin 2 → ℕ) a + S2048x256.size a ≤ S2048x1024.size a := by
  revert ch; decide
theorem row_inb (ch : Fin 4) : ∀ a, (![ch.val * 256, 0] : Fin 2 → ℕ) a + S256x2048.size a ≤ S1024x2048.size a := by
  revert ch; decide
theorem out_inb (ch : Fin 4) : ∀ a, (![0, ch.val * 256] : Fin 2 → ℕ) a + S64x256.size a ≤ S64x1024.size a := by
  revert ch; decide
theorem sem_inb (s : Fin 24) : ∀ a, (![s.val] : Fin 1 → ℕ) a + S1.size a ≤ S24.size a := by
  revert s; decide

/-- The slot of a stage and chunk in the two scratch buffers; -/
abbrev slotR (st : Fin 2) (ch : Fin 4) : Rect S2x4x64x256 :=
  Rect.unit (s := S2x4x64x256) ![st.val, ch.val, 0, 0] S1x1x64x256.size (slot_inb st ch)
/-- a chunk's columns of a second matrix, its rows of a first matrix, its columns of the result. -/
abbrev colR (ch : Fin 4) : Rect S2048x1024 := Rect.unit (s := S2048x1024) ![0, ch.val * 256] S2048x256.size (col_inb ch)
abbrev rowR (ch : Fin 4) : Rect S1024x2048 := Rect.unit (s := S1024x2048) ![ch.val * 256, 0] S256x2048.size (row_inb ch)
abbrev outR (ch : Fin 4) : Rect S64x1024 := Rect.unit (s := S64x1024) ![0, ch.val * 256] S64x256.size (out_inb ch)
abbrev xR : Rect S64x1024 := Rect.unit (s := S64x1024) ![0, 0] S64x1024.size inb_S64x1024_S64x1024_0_0
abbrev winR : Rect S1024x2048 := Rect.unit (s := S1024x2048) ![0, 0] S1024x2048.size inb_S1024x2048_S1024x2048_0_0

abbrev sslot (st : Fin 2) (ch : Fin 4) : Memref sig .tc .vmem S64x256 .f32 :=
  (sndM.slice (slotR st ch) (fun _ => rfl)).squeeze S64x256 squeezes_S1x1x64x256_S64x256
abbrev rslot (st : Fin 2) (ch : Fin 4) : Memref sig .tc .vmem S64x256 .f32 :=
  (rcvM.slice (slotR st ch) (fun _ => rfl)).squeeze S64x256 squeezes_S1x1x64x256_S64x256

/-- The barrier semaphore, and copy `s`'s send and receive semaphores. -/
abbrev barS : Sem sig := (SemArray.scalar (sig.barrier 0 rfl) : Sems sig S_).sem
def sendQ (s : Fin 24) : DmaSem sig :=
  (((cc0_scratch2 : DmaSems sig S24).slice (Rect.unit (s := S24) ![s.val] S1.size (sem_inb s))).squeeze S_ squeezes_S1_S_).sem
def recvQ (s : Fin 24) : DmaSem sig :=
  (((cc0_scratch3 : DmaSems sig S24).slice (Rect.unit (s := S24) ![s.val] S1.size (sem_inb s))).squeeze S_ squeezes_S1_S_).sem

/-- The number of the copy of layer `l`, stage `st`, chunk `ch`. -/
def sIx (l : Fin 3) (st : Fin 2) (ch : Fin 4) : Fin 24 := ⟨(l.val * 2 + st.val) * 4 + ch.val, by omega⟩

/-! ## The values -/

abbrev HV (F : FTy → Type) := FVec F S64x2048 .f32
abbrev CV (F : FTy → Type) := FVec F S64x256 .f32

def reluV (t : HV F) : HV F := maximumf t (broadcast S64x2048 (Scalar.ofBits .f32 0x00000000#32))
/-- `x · Win`, -/
def dotX (x : Vec F S64x1024 .f32) (w : Vec F S1024x2048 .f32) : HV F :=
  matmul dot_S64x1024_S1024x2048_S64x2048_1_0_0_1_n_n none (shapeCast S64x1024 x shapeCasts_S64x1024_S64x1024)
    (shapeCast S1024x2048 w shapeCasts_S1024x2048_S1024x2048) (constant S64x2048 .f32 0x00000000#32)
/-- `h` by a chunk of columns of `Wout`, -/
def dotC (h : HV F) (w : Vec F S2048x256 .f32) : CV F :=
  matmul dot_S64x2048_S2048x256_S64x256_1_0_0_1_n_n none h (shapeCast S2048x256 w shapeCasts_S2048x256_S2048x256)
    (constant S64x256 .f32 0x00000000#32)
/-- a chunk of `x` by its rows of the next `Win`, -/
def dotR (x : CV F) (w : Vec F S256x2048 .f32) : HV F :=
  matmul dot_S64x256_S256x2048_S64x2048_1_0_0_1_n_n none x (shapeCast S256x2048 w shapeCasts_S256x2048_S256x2048)
    (constant S64x2048 .f32 0x00000000#32)
/-- a chunk laid out as its slot, and read back. -/
def asSlot (v : CV F) : Vec F S1x1x64x256 .f32 := shapeCast S1x1x64x256 v shapeCasts_S64x256_S1x1x64x256
def ofSlot (v : Vec F S1x1x64x256 .f32) : CV F := shapeCast S64x256 v shapeCasts_S1x1x64x256_S64x256

/-! ## The steps -/

abbrev PG (F : FTy → Type) (α : Type) := Prog (TpuEff nD τ sig (Elt F) Λ₀ .tc) α

def handshake (d0 d1 : Dev nD) : PG F PUnit := do
  semSignalWord d0 barS 1#32
  semSignalWord d1 barS 1#32
  semWaitWord barS 2#32

/-- Store a chunk in its send slot and start its copy to device `d`. -/
def sendChunk (d : Dev nD) (l : Fin 3) (st : Fin 2) (ch : Fin 4) (v : CV F) : PG F PUnit := do
  let _ ← Prog.lift (.load sndM (slotR st ch).toLoadRect (View.loadsAt_vmem h_S1x1x64x256))
  Prog.lift (.store sndM (slotR st ch) (asSlot v) Finset.univ (View.stores_vmem_bits_univ h_S1x1x64x256 rfl) (.inl rfl))
  Prog.lift (.enqueueDma (sslot st ch) (.remote (Dev.tc d) (rslot st ch) (.dma (sendQ (sIx l st ch)))) (.dma (recvQ (sIx l st ch)))
    ((View.wordExact_bits rfl).reshape _ _) ((View.wordExact_bits rfl).reshape _ _) ⟨⟨rfl, Or.inl rfl⟩, trivial⟩)

/-- Wait until a chunk has left and the partner's has landed, and load that. -/
def recvChunk (l : Fin 3) (st : Fin 2) (ch : Fin 4) : PG F (CV F) := do
  Prog.lift (.waitDma2 (sendQ (sIx l st ch)) (rslot st ch) (sslot st ch) ((View.wordExact_bits rfl).reshape _ _) ((View.wordExact_bits rfl).reshape _ _))
  Prog.lift (.waitDma2 (recvQ (sIx l st ch)) (sslot st ch) (rslot st ch) ((View.wordExact_bits rfl).reshape _ _) ((View.wordExact_bits rfl).reshape _ _))
  let v ← Prog.lift (.load rcvM (slotR st ch).toLoadRect (View.loadsAt_vmem h_S1x1x64x256))
  pure (ofSlot v)

def stepA (d : Fin 4 → Dev nD) (l : Fin 3) (h : HV F) (ch : Fin 4) : PG F (CV F) := do
  let w ← Prog.lift (.load (woutM l) (colR ch).toLoadRect (View.loadsAt_vmem h_S2048x256))
  sendChunk (d ch) l 0 ch (dotC h w)
  pure (dotC h w)

def stepB (d : Fin 4 → Dev nD) (l : Fin 3) (p : CV F) (ch : Fin 4) : PG F (CV F) := do
  let v ← recvChunk l 0 ch
  sendChunk (d ch) l 1 ch (addf p v)
  pure (addf p v)

/-- A chunk of the layer's result times its rows of the next layer's first matrix. -/
def stepC (l l' : Fin 3) (a : CV F) (ch : Fin 4) : PG F (HV F) := do
  let v ← recvChunk l 1 ch
  let w ← Prog.lift (.load (winM l') (rowR ch).toLoadRect (View.loadsAt_vmem h_S256x2048))
  pure (dotR (addf a v) w)

def stepD (a : CV F) (ch : Fin 4) : PG F PUnit := do
  let v ← recvChunk 2 1 ch
  let _ ← Prog.lift (.load outM (outR ch).toLoadRect (View.loadsAt_vmem h_S64x256))
  Prog.lift (.store outM (outR ch) (addf a v) Finset.univ (View.stores_vmem_bits_univ h_S64x256 rfl) (.inl rfl))

abbrev C4 (F : FTy → Type) := CV F × CV F × CV F × CV F

def layerA (d : Fin 4 → Dev nD) (l : Fin 3) (h : HV F) : PG F (C4 F) := do
  let p0 ← stepA d l h 0
  let p1 ← stepA d l h 1
  let p2 ← stepA d l h 2
  let p3 ← stepA d l h 3
  pure (p0, p1, p2, p3)

def layerB (d : Fin 4 → Dev nD) (l : Fin 3) (p : C4 F) : PG F (C4 F) := do
  let a0 ← stepB d l p.1 0
  let a1 ← stepB d l p.2.1 1
  let a2 ← stepB d l p.2.2.1 2
  let a3 ← stepB d l p.2.2.2 3
  pure (a0, a1, a2, a3)

def layerC (l l' : Fin 3) (a : C4 F) : PG F (HV F) := do
  let t0 ← stepC l l' a.1 0
  let t1 ← stepC l l' a.2.1 1
  let t2 ← stepC l l' a.2.2.1 2
  let t3 ← stepC l l' a.2.2.2 3
  pure (reluV (addf (addf (addf t0 t1) t2) t3))

def layerD (a : C4 F) : PG F PUnit := do
  stepD a.1 0
  stepD a.2.1 1
  stepD a.2.2.1 2
  stepD a.2.2.2 3

/-- The devices named by the body's signals (per layer and partner) and by its copies. -/
structure Peers where
  sig : Fin 3 → Fin 2 → Dev nD
  cpy : Fin 3 → Fin 2 → Fin 4 → Dev nD

def body (d : Peers) : PG F PUnit := do
  handshake (d.sig 0 0) (d.sig 0 1)
  let x ← Prog.lift (.load xM xR.toLoadRect (View.loadsAt_vmem h_S64x1024))
  let w ← Prog.lift (.load (winM 0) winR.toLoadRect (View.loadsAt_vmem h_S1024x2048))
  let p ← layerA (d.cpy 0 0) 0 (reluV (dotX x w))
  let a ← layerB (d.cpy 0 1) 0 p
  let h ← layerC 0 1 a
  handshake (d.sig 1 0) (d.sig 1 1)
  let p ← layerA (d.cpy 1 0) 1 h
  let a ← layerB (d.cpy 1 1) 1 p
  let h ← layerC 1 2 a
  handshake (d.sig 2 0) (d.sig 2 1)
  let p ← layerA (d.cpy 2 0) 2 h
  let a ← layerB (d.cpy 2 1) 2 p
  layerD a

/-- The devices the printed body computes. -/
def printed (d : Dev nD) : Peers where
  sig := ![![⟨k0_dev1 d, k0_dev1_lt d⟩, ⟨k0_dev2 d, k0_dev2_lt d⟩], ![⟨k0_dev11 d, k0_dev11_lt d⟩, ⟨k0_dev12 d, k0_dev12_lt d⟩], ![⟨k0_dev21 d, k0_dev21_lt d⟩, ⟨k0_dev22 d, k0_dev22_lt d⟩]]
  cpy := ![![![⟨k0_dev3 d, k0_dev3_lt d⟩, ⟨k0_dev4 d, k0_dev4_lt d⟩, ⟨k0_dev5 d, k0_dev5_lt d⟩, ⟨k0_dev6 d, k0_dev6_lt d⟩],
      ![⟨k0_dev7 d, k0_dev7_lt d⟩, ⟨k0_dev8 d, k0_dev8_lt d⟩, ⟨k0_dev9 d, k0_dev9_lt d⟩, ⟨k0_dev10 d, k0_dev10_lt d⟩]],
    ![![⟨k0_dev13 d, k0_dev13_lt d⟩, ⟨k0_dev14 d, k0_dev14_lt d⟩, ⟨k0_dev15 d, k0_dev15_lt d⟩, ⟨k0_dev16 d, k0_dev16_lt d⟩],
      ![⟨k0_dev17 d, k0_dev17_lt d⟩, ⟨k0_dev18 d, k0_dev18_lt d⟩, ⟨k0_dev19 d, k0_dev19_lt d⟩, ⟨k0_dev20 d, k0_dev20_lt d⟩]],
    ![![⟨k0_dev23 d, k0_dev23_lt d⟩, ⟨k0_dev24 d, k0_dev24_lt d⟩, ⟨k0_dev25 d, k0_dev25_lt d⟩, ⟨k0_dev26 d, k0_dev26_lt d⟩],
      ![⟨k0_dev27 d, k0_dev27_lt d⟩, ⟨k0_dev28 d, k0_dev28_lt d⟩, ⟨k0_dev29 d, k0_dev29_lt d⟩, ⟨k0_dev30 d, k0_dev30_lt d⟩]]]

theorem body_eq : cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) (Memref.whole cc0_scratch1) (Memref.isWhole_whole _)
    cc0_scratch2 cc0_scratch3 = Prog.op .deviceId (fun d => body (printed d)) := by
  rw [cc0_body_eq_skeleton]
  rfl

/-! ## The partners -/

set_option backward.proofsInPublic true in
/-- A device's partner of a stage: its index's low bit flipped in stage 0, `3 - c` in stage 1. -/
def peer (b : Fin 2) (c : Dev nD) : Dev nD :=
  ⟨if b = 0 then (if c.val % 2 = 0 then c.val + 1 else c.val - 1) else 3 - c.val, by revert b c; decide⟩

theorem peer_peer (b : Fin 2) (c : Dev nD) : peer b (peer b c) = c := by revert b c; decide

/-- The bodies' devices as partners. -/
def partners (c : Dev nD) : Peers where
  sig _ b := peer b c
  cpy _ st _ := peer st c

theorem printed_eq (c : Dev nD) : printed c = partners c := by
  have h1 : ∀ (c : Dev nD) (l : Fin 3) (b : Fin 2), (printed c).sig l b = peer b c := by decide
  have h2 : ∀ (c : Dev nD) (l : Fin 3) (st : Fin 2) (ch : Fin 4), (printed c).cpy l st ch = peer st c := by decide
  have : printed c = ⟨(printed c).sig, (printed c).cpy⟩ := rfl
  rw [this, partners]
  congr 1
  · funext l b; exact h1 c l b
  · funext l st ch; exact h2 c l st ch

end Cert.KernelIdealProof

end
-- ==== Proof.KernelIdealSched.lean ====
/-
# The schedule of the exchanges

Each device has one barrier cell, waited on once per layer, and per copy (layer, stage, chunk) a send and a receive
cell, used once. A barrier round is paid by the two partners; each hands over its receive slots of the stage in which
it is the partner: the device may then write them. A copy's landing hands the receiver the slot at the sent contents
and the sender's word that it has passed its barrier's round of that layer, which the receiver's next signal needs.
-/
module

public import proofs.«01_k».proof.Proof.KernelIdealSteps
public import Idealize.ShloMosaic.Lib.Ring
public import Idealize.ShloMosaic.Lib.Pipeline.FrameBody

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The cells -/

theorem sendQ_val (s : Fin 24) : (sendQ s).val = 8 + s.val := by revert s; decide
theorem recvQ_val (s : Fin 24) : (recvQ s).val = 32 + s.val := by revert s; decide

abbrev barCell (c : Dev nD) : GSem nD τ sig := ((c : Thread nD τ), .reg barS)
abbrev sendCell (c : Dev nD) (s : Fin 24) : GSem nD τ sig := ((c : Thread nD τ), .dma (sendQ s))
abbrev recvCell (c : Dev nD) (s : Fin 24) : GSem nD τ sig := ((c : Thread nD τ), .dma (recvQ s))

/-- The amount of one copy. -/
abbrev N : ℕ := (rslot 0 0).view.dmaCredit
theorem N_pos : 0 < N := View.dmaCredit_pos _ (by decide)

/-- The layer, stage and chunk of a copy's number. -/
def layerOf (s : Fin 24) : Fin 3 := ⟨s.val / 8, by omega⟩
def stageOf (s : Fin 24) : Fin 2 := ⟨s.val / 4 % 2, by omega⟩
def chunkOf (s : Fin 24) : Fin 4 := ⟨s.val % 4, by omega⟩
theorem layerOf_sIx (l : Fin 3) (st : Fin 2) (ch : Fin 4) : layerOf (sIx l st ch) = l := by revert l st ch; decide
theorem stageOf_sIx (l : Fin 3) (st : Fin 2) (ch : Fin 4) : stageOf (sIx l st ch) = st := by revert l st ch; decide
theorem chunkOf_sIx (l : Fin 3) (st : Fin 2) (ch : Fin 4) : chunkOf (sIx l st ch) = ch := by revert l st ch; decide
theorem sIx_of (s : Fin 24) : sIx (layerOf s) (stageOf s) (chunkOf s) = s := by revert s; decide

/-! ## Slots -/

def sAny (c : Dev nD) (st : Fin 2) (ch : Fin 4) : sProp 𝕄 :=
  iprop(∃ f, (sslot st ch).view.loc (c : Thread nD τ) ↦[(sslot st ch).view.set]{fullShare} f)
def rAny (c : Dev nD) (st : Fin 2) (ch : Fin 4) : sProp 𝕄 :=
  iprop(∃ f, (rslot st ch).view.loc (c : Thread nD τ) ↦[(rslot st ch).view.set]{fullShare} f)
/-- A device's receive slot holding `v`. -/
def rIs (c : Dev nD) (st : Fin 2) (ch : Fin 4) (v : CV F) : sProp 𝕄 :=
  iprop(∃ f, ⌜(rslot st ch).view.read (Elt F) f = v⌝ ∗ ((rslot st ch).view.loc (c : Thread nD τ) ↦[(rslot st ch).view.set]{fullShare} f))

omit [FloatOps F] in
instance sAny_storable (c : Dev nD) (st ch) : BI.Storable (upEmb : UEmb _ 𝕄) (sAny (F := F) c st ch) := by unfold sAny; infer_instance
omit [FloatOps F] in
instance rAny_storable (c : Dev nD) (st ch) : BI.Storable (upEmb : UEmb _ 𝕄) (rAny (F := F) c st ch) := by unfold rAny; infer_instance
omit [FloatOps F] in
instance rIs_storable (c : Dev nD) (st ch) (v : CV F) : BI.Storable (upEmb : UEmb _ 𝕄) (rIs (F := F) c st ch v) := by unfold rIs; infer_instance

omit [FloatOps F] in
theorem rIs_any (c : Dev nD) (st ch) (v : CV F) : rIs c st ch v ⊢ rAny (F := F) c st ch := by
  unfold rIs rAny
  iintro ⟨%f, -, H⟩; iexists f; iexact H

/-- An assertion for each of the four chunks. -/
abbrev four (Φ : Fin 4 → sProp 𝕄) : sProp 𝕄 := iprop(Φ 0 ∗ Φ 1 ∗ Φ 2 ∗ Φ 3)

/-! ## The schedule: `M l st ch c` is what device `c` sends in that copy -/

abbrev Sent (F : FTy → Type) := Fin 3 → Fin 2 → Fin 4 → Dev nD → CV F

variable (M : Sent F)

/-- What a partner's signal hands device `c`: that partner's receive slots of the stage. -/
def barPay (c : Dev nD) (b : Fin 2) : sProp 𝕄 := four fun ch => rAny (peer b c) b ch
def recvPay (c : Dev nD) (s : Fin 24) : sProp 𝕄 :=
  iprop(rIs c (stageOf s) (chunkOf s) (M (layerOf s) (stageOf s) (chunkOf s) (peer (stageOf s) c))
    ∗ reached ER (barCell (peer (stageOf s) c)) ((layerOf s).val + 1))
def sendPay (c : Dev nD) (s : Fin 24) : sProp 𝕄 := sAny c (stageOf s) (chunkOf s)

abbrev IsBar (g : GSem nD τ sig) : Prop := g.1.2 = .tc ∧ g.2 = .reg barS

/-- What a cell is, from its semaphore: a receive cell's number, a send cell's number. -/
def recvIx : SemLoc sig → Option (Fin 24)
  | .dma q => if h : 32 ≤ q.val ∧ q.val < 56 then some ⟨q.val - 32, by omega⟩ else none
  | .reg _ => none
def sendIx : SemLoc sig → Option (Fin 24)
  | .dma q => if h : 8 ≤ q.val ∧ q.val < 32 then some ⟨q.val - 8, by omega⟩ else none
  | .reg _ => none

theorem recvIx_recv (s : Fin 24) : recvIx (.dma (recvQ s)) = some s := by revert s; decide
theorem recvIx_send (s : Fin 24) : recvIx (.dma (sendQ s)) = none := by revert s; decide
theorem recvIx_bar : recvIx (.reg barS) = none := rfl
theorem sendIx_send (s : Fin 24) : sendIx (.dma (sendQ s)) = some s := by revert s; decide
theorem sendIx_recv (s : Fin 24) : sendIx (.dma (recvQ s)) = none := by revert s; decide

def rd : Rounds.Schedule (GSem nD τ sig) Bool 𝕄 where
  duties g r :=
    if g.1.2 = .tc then
      if g.2 = .reg barS then (if r < 3 then Finset.univ else ∅)
      else if (recvIx g.2).isSome ∨ (sendIx g.2).isSome then (if r = 0 then {false} else ∅) else ∅
    else ∅
  unitless _ := False
  amount g _ _ := if g.2 = .reg barS then 1 else N
  payload g _ d :=
    if g.2 = .reg barS then (if d then barPay g.1.1 1 else barPay g.1.1 0)
    else match recvIx g.2 with
      | some s => recvPay M g.1.1 s
      | none => match sendIx g.2 with
        | some s => sendPay g.1.1 s
        | none => iprop(emp)
  amount_pos g _ _ _ := by
    by_cases h : g.2 = .reg barS
    · rw [if_pos h]; exact Nat.one_pos
    · rw [if_neg h]; exact N_pos

instance rd_payload_storable (g : GSem nD τ sig) (r : ℕ) (d : Bool) :
    BI.Storable (upEmb : UEmb _ 𝕄) ((rd (F := F) M).payload g r d) := by
  dsimp only [rd]
  unfold barPay recvPay sendPay
  (repeat' split) <;> infer_instance

section Sched
variable (c : Dev nD) (s : Fin 24)

theorem send_ne_bar : (SemLoc.dma (sendQ s) : SemLoc sig) ≠ .reg barS := fun h => by cases h
theorem recv_ne_bar : (SemLoc.dma (recvQ s) : SemLoc sig) ≠ .reg barS := fun h => by cases h

omit [FloatOps F] in
theorem duties_bar (r : ℕ) (hr : r < 3) : (rd (F := F) M).duties (barCell c) r = Finset.univ := by
  dsimp only [rd]; rw [if_pos rfl, if_pos rfl, if_pos hr]
omit [FloatOps F] in
theorem duties_send : (rd (F := F) M).duties (sendCell c s) 0 = {false} := by
  dsimp only [rd]; rw [if_pos rfl, if_neg (send_ne_bar s), if_pos (.inr (by rw [sendIx_send]; rfl)), if_pos rfl]
omit [FloatOps F] in
theorem duties_recv : (rd (F := F) M).duties (recvCell c s) 0 = {false} := by
  dsimp only [rd]; rw [if_pos rfl, if_neg (recv_ne_bar s), if_pos (.inl (by rw [recvIx_recv]; rfl)), if_pos rfl]
omit [FloatOps F] in
theorem duties_bar_later : ∀ r, 3 ≤ r → (rd (F := F) M).duties (barCell c) r = ∅ := fun r hr => by
  dsimp only [rd]; rw [if_pos rfl, if_pos rfl, if_neg (by omega)]
omit [FloatOps F] in
theorem duties_dma_later (q : DmaSem sig) : ∀ r, 1 ≤ r → (rd (F := F) M).duties ((c : Thread nD τ), .dma q) r = ∅ := fun r hr => by
  dsimp only [rd]; rw [if_pos rfl, if_neg (fun h => by cases h), if_neg (by omega : ¬ r = 0), ite_self]

omit [FloatOps F] in
theorem amount_bar (r : ℕ) (d : Bool) : (rd (F := F) M).amount (barCell c) r d = 1 := by dsimp only [rd]; exact if_pos rfl
omit [FloatOps F] in
theorem amount_send (d : Bool) : (rd (F := F) M).amount (sendCell c s) 0 d = N := by dsimp only [rd]; exact if_neg (send_ne_bar s)
omit [FloatOps F] in
theorem amount_recv (d : Bool) : (rd (F := F) M).amount (recvCell c s) 0 d = N := by dsimp only [rd]; exact if_neg (recv_ne_bar s)

omit [FloatOps F] in
theorem expect_bar (r : ℕ) (hr : r < 3) : (rd (F := F) M).expect (barCell c) r = 2 := by
  unfold Schedule.expect Schedule.amountOf
  rw [duties_bar M c r hr, Finset.sum_congr rfl fun d _ => amount_bar M c r d, Finset.sum_const, Finset.card_univ, Fintype.card_bool, smul_eq_mul]
omit [FloatOps F] in
theorem expect_send : (rd (F := F) M).expect (sendCell c s) 0 = N := by
  unfold Schedule.expect Schedule.amountOf; rw [duties_send, Finset.sum_singleton, amount_send]
omit [FloatOps F] in
theorem expect_recv : (rd (F := F) M).expect (recvCell c s) 0 = N := by
  unfold Schedule.expect Schedule.amountOf; rw [duties_recv, Finset.sum_singleton, amount_recv]

omit [FloatOps F] in
theorem payload_bar_true (r : ℕ) : (rd (F := F) M).payload (barCell c) r true = barPay c 1 := by dsimp only [rd]; rw [if_pos rfl, if_pos rfl]
omit [FloatOps F] in
theorem payload_bar_false (r : ℕ) : (rd (F := F) M).payload (barCell c) r false = barPay c 0 := by
  dsimp only [rd]; rw [if_pos rfl]; exact if_neg Bool.false_ne_true
omit [FloatOps F] in
theorem payload_send (d : Bool) : (rd (F := F) M).payload (sendCell c s) 0 d = sendPay c s := by
  dsimp only [rd]; rw [if_neg (send_ne_bar s), recvIx_send, sendIx_send]
omit [FloatOps F] in
theorem payload_recv (d : Bool) : (rd (F := F) M).payload (recvCell c s) 0 d = recvPay M c s := by
  dsimp only [rd]; rw [if_neg (recv_ne_bar s), recvIx_recv]

omit [FloatOps F] in
theorem rest_bar (r : ℕ) (hr : r < 3) :
    bigSep ((rd (F := F) M).duties (barCell c) r \ ∅) (fun d => (rd (F := F) M).payload (barCell c) r d) = iprop(barPay c 0 ∗ barPay c 1) := by
  rw [Finset.sdiff_empty, duties_bar M c r hr, bigSep_univ_eq_bigSepL [false, true] (by decide) (by decide), bigSepL_cons_cons, bigSepL_singleton,
    payload_bar_false, payload_bar_true]
  rfl
omit [FloatOps F] in
theorem rest_send : bigSep ((rd (F := F) M).duties (sendCell c s) 0 \ ∅) (fun d => (rd (F := F) M).payload (sendCell c s) 0 d) = sendPay c s := by
  rw [Finset.sdiff_empty, duties_send, bigSep_singleton, payload_send]
omit [FloatOps F] in
theorem rest_recv : bigSep ((rd (F := F) M).duties (recvCell c s) 0 \ ∅) (fun d => (rd (F := F) M).payload (recvCell c s) 0 d) = recvPay M c s := by
  rw [Finset.sdiff_empty, duties_recv, bigSep_singleton, payload_recv]

end Sched

/-! ## What a device owes, in the order in which it pays; the levels -/

/-- A payment: the signal of a layer's handshake to a partner, or a copy. -/
inductive Due
  | bar (l : Fin 3) (b : Fin 2)
  | cpy (l : Fin 3) (st : Fin 2) (ch : Fin 4)
  deriving DecidableEq

namespace Due
/-- The semaphore paid, its index (the layer) and the amount; -/
def sem : Due → SemLoc sig
  | bar _ _ => .reg barS
  | cpy l st ch => .dma (recvQ (sIx l st ch))
def toward : Due → Fin 2
  | bar _ b => b
  | cpy _ st _ => st
def ix : Due → ℕ
  | bar l _ => l.val
  | cpy l _ _ => l.val
def amt : Due → ℕ
  | bar _ _ => 1
  | cpy _ _ _ => N
/-- the level: a layer's barrier round, its first stage, its second. -/
def lvl : Due → ℕ
  | bar l _ => 3 * l.val + 1
  | cpy l st _ => 3 * l.val + 2 + st.val
end Due

abbrev dueAt (d : Due) (c : Dev nD) : CellTallies nD τ sig ℕ := tallyAt ((peer d.toward c : Thread nD τ), d.sem) d.ix d.amt

def owed (c : Dev nD) : List Due → CellTallies nD τ sig ℕ
  | [] => 0
  | d :: ds => owed c ds + dueAt d c

def layerDues (l : Fin 3) (ds : List Due) : List Due :=
  .bar l 0 :: .bar l 1 :: .cpy l 0 0 :: .cpy l 0 1 :: .cpy l 0 2 :: .cpy l 0 3 :: .cpy l 1 0 :: .cpy l 1 1 :: .cpy l 1 2 :: .cpy l 1 3 :: ds

def dues : List Due := layerDues 0 (layerDues 1 (layerDues 2 []))

def L (g : GSem nD τ sig) : Finset ℕ := if g.1.2 = .tc then {0, 1, 2} else ∅
def lv (g : GSem nD τ sig) (u : ℕ) : ℕ :=
  if g.2 = .reg barS then 3 * u + 1 else match recvIx g.2 with
    | some s => 3 * (layerOf s).val + 2 + (stageOf s).val
    | none => 0

theorem L_of_ne (g : GSem nD τ sig) (h : g.1.2 ≠ .tc) : L g = ∅ := if_neg h
theorem mem_L (c : Dev nD) (sm : SemLoc sig) (l : Fin 3) : l.val ∈ L ((c : Thread nD τ), sm) := by
  rw [L, if_pos rfl]; revert l; decide

theorem lv_bar (c : Dev nD) (u : ℕ) : lv (barCell c) u = 3 * u + 1 := if_pos rfl
theorem lv_recv (c : Dev nD) (l : Fin 3) (st : Fin 2) (ch : Fin 4) (u : ℕ) : lv (recvCell c (sIx l st ch)) u = 3 * l.val + 2 + st.val := by
  unfold lv; rw [if_neg (recv_ne_bar _), recvIx_recv]; dsimp only; rw [layerOf_sIx, stageOf_sIx]
theorem lv_other (c : Dev nD) (q : DmaSem sig) (h : recvIx (.dma q) = none) (u : ℕ) : lv ((c : Thread nD τ), .dma q) u = 0 := by
  unfold lv; rw [if_neg (fun h => by cases h), h]

theorem lv_due (d : Due) (c : Dev nD) : lv ((c : Thread nD τ), d.sem) d.ix = d.lvl := by
  cases d with
  | bar l b => exact lv_bar c _
  | cpy l st ch => exact lv_recv c l st ch _
theorem ix_mem (d : Due) (c : Dev nD) : d.ix ∈ L ((c : Thread nD τ), d.sem) := by
  cases d <;> exact mem_L c _ _

theorem owed_pos {c : Dev nD} {g : GSem nD τ sig} {u : ℕ} : ∀ {ds : List Due}, 0 < owed c ds g u →
    ∃ d ∈ ds, g = ((peer d.toward c : Thread nD τ), d.sem) ∧ u = d.ix
  | [], h => absurd h (Nat.lt_irrefl 0)
  | d :: ds, h => by
    by_cases hd : g = ((peer d.toward c : Thread nD τ), d.sem) ∧ u = d.ix
    · exact ⟨d, List.mem_cons_self, hd⟩
    · unfold owed at h
      rw [Pi.add_apply, Finsupp.add_apply, tallyAt_apply, if_neg hd, Nat.add_zero] at h
      obtain ⟨d', h1, h2⟩ := owed_pos h
      exact ⟨d', List.mem_cons_of_mem _ h1, h2⟩

/-- Every payment left is above level `n`. -/
def Above (n : ℕ) (ds : List Due) : Prop := ∀ d ∈ ds, n < d.lvl

theorem Above.nil (n : ℕ) : Above n [] := fun _ h => absurd h List.not_mem_nil
theorem Above.cons {n : ℕ} {d : Due} {ds : List Due} (h : n < d.lvl) (hs : Above n ds) : Above n (d :: ds) := fun d' h' => by
  rcases List.mem_cons.mp h' with rfl | h'
  · exact h
  · exact hs d' h'
theorem Above.mono {n n' : ℕ} {ds : List Due} (hn : n' ≤ n) (h : Above n ds) : Above n' ds := fun d hd => lt_of_le_of_lt hn (h d hd)

omit [FloatOps F] in
/-- A device may wait at a level below all it owes. -/
theorem mayWait {c : Dev nD} {sm : SemLoc sig} {u : ℕ} {ds : List Due} (hu : u ∈ L ((c : Thread nD τ), sm)) (h : Above (lv ((c : Thread nD τ), sm) u) ds) :
    (levAts L lv : sProp 𝕄) ⊢ MayWait (c : Thread nD τ) sm u (owed c ds) :=
  MayOwe.of_cut (L := L) (lev := lv) (lv ((c : Thread nD τ), sm) u) (fun p hp => by rw [Finset.mem_singleton.mp hp]; exact hu)
    (fun g u hg => by obtain ⟨d, _, rfl, rfl⟩ := owed_pos hg; exact ix_mem d _)
    (fun p hp => by rw [Finset.mem_singleton.mp hp])
    (fun g u hg => by obtain ⟨d, hd, rfl, rfl⟩ := owed_pos hg; rw [lv_due]; exact h d hd)

end Cert.KernelIdealProof

end
-- ==== Proof.KernelIdealMoves.lean ====
/-
# The three moves of the protocol

The handshake of a layer, one chunk sent, one chunk received, each proved once at any device, layer, stage and chunk.
-/
module

public import proofs.«01_k».proof.Proof.KernelIdealSched
public import Idealize.ShloMosaic.Lib.Pipeline.Value

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

abbrev 𝒱₀ : Variants := Variants.none

/-! ## Reading and writing slots -/

omit [FloatOps F] in
theorem read_sslot_write (st : Fin 2) (ch : Fin 4) (f : (cc0_scratch0 : Ref sig .tc).ty.Contents (Elt F)) (v : CV F) :
    (sslot st ch).view.read (Elt F) ((sndM.access (slotR st ch) : View sig .tc _ _ _).write (Elt F) f (asSlot v) Finset.univ) = v := by
  show shapeCast S64x256 ((sndM.access (slotR st ch) : View sig .tc _ _ _).read (Elt F)
    ((sndM.access (slotR st ch) : View sig .tc _ _ _).write (Elt F) f (asSlot v) Finset.univ)) shapeCasts_S1x1x64x256_S64x256 = v
  rw [View.read_write_univ]
  exact shapeCast_shapeCast v _ _

omit [FloatOps F] in
theorem read_rslot (st : Fin 2) (ch : Fin 4) (f : (cc0_scratch1 : Ref sig .tc).ty.Contents (Elt F)) :
    ofSlot (rcvM.view.readAt (Elt F) (slotR st ch).toLoadRect f) = (rslot st ch).view.read (Elt F) f := rfl

theorem sslot_set (st : Fin 2) (ch : Fin 4) : (sslot st ch).view.set = (sndM.access (slotR st ch) : View sig .tc _ _ _).set :=
  View.set_reshape _ _
theorem rslot_set (st : Fin 2) (ch : Fin 4) : (rslot st ch).view.set = (rcvM.access (slotR st ch) : View sig .tc _ _ _).set :=
  View.set_reshape _ _

/-! ## The cells' records -/

/-- The cells of one device: its barrier, its send cells, its receive cells. -/
abbrev CK : Type := Option (Bool × Fin 24)
abbrev csem : CK → SemLoc sig
  | none => .reg barS
  | some (false, s) => .dma (sendQ s)
  | some (true, s) => .dma (recvQ s)
abbrev kcell (ck : Dev nD × CK) : GSem nD τ sig := ((ck.1 : Thread nD τ), csem ck.2)

variable (M : Sent F) (K : Dev nD × CK → ℕ)

/-- Every cell's invariant, at the names `K`, and that every cell has reached round 0. -/
def records : sProp 𝕄 :=
  iprop((bigSep Finset.univ fun ck : Dev nD × CK => cellInv ER (rd M) (K ck) (kcell ck))
    ∗ bigSep Finset.univ fun ck : Dev nD × CK => reached ER (kcell ck) 0)

instance records_persistent : BI.Persistent (records M K) := by unfold records; infer_instance

omit [FloatOps F] in
theorem inv_of (ck : Dev nD × CK) :
    (bigSep Finset.univ fun ck : Dev nD × CK => (cellInv ER (rd M) (K ck) (kcell ck) : sProp 𝕄)) ⊢ cellInv ER (rd M) (K ck) (kcell ck) :=
  bigSep_elim (Finset.mem_univ ck)
omit [FloatOps F] in
theorem reached_of (ck : Dev nD × CK) :
    (bigSep Finset.univ fun ck : Dev nD × CK => (reached ER (kcell ck) 0 : sProp 𝕄)) ⊢ reached ER (kcell ck) 0 :=
  bigSep_elim (Finset.mem_univ ck)

omit [FloatOps F] in
theorem inv_at (ck : Dev nD × CK) : records M K ⊢ cellInv ER (rd M) (K ck) (kcell ck) := by
  unfold records
  iintro ⟨H, -⟩
  iapply (inv_of M K ck); iexact H
omit [FloatOps F] in
theorem reached_at (ck : Dev nD × CK) : records M K ⊢ reached ER (kcell ck) 0 := by
  unfold records
  iintro ⟨-, H⟩
  iapply (reached_of (F := F) ck); iexact H

/-- What a device still owes, with any record of its waits. -/
def owe (c : Dev nD) (ds : List Due) : sProp 𝕄 := iprop(∃ W, owes (c : Thread nD τ) (owed c ds) W)

/-! ## The resources of a copy: before it starts, in flight, done; of a handshake -/

def R0 (c : Dev nD) (l : Fin 3) (st : Fin 2) (ch : Fin 4) : sProp 𝕄 :=
  iprop(atPos ER (sendCell c (sIx l st ch)) 0 ∅ 0 ∗ atPos ER (recvCell c (sIx l st ch)) 0 ∅ 0
    ∗ dutyTok ER (sendCell c (sIx l st ch)) 0 false ∗ dutyTok ER (recvCell (peer st c) (sIx l st ch)) 0 false
    ∗ cred (tallyAt (recvCell c (sIx l st ch)) l.val N))
def R1 (c : Dev nD) (l : Fin 3) (st : Fin 2) (ch : Fin 4) : sProp 𝕄 :=
  iprop(atPos ER (sendCell c (sIx l st ch)) 0 ∅ 0 ∗ atPos ER (recvCell c (sIx l st ch)) 0 ∅ 0
    ∗ cred (tallyAt (sendCell c (sIx l st ch)) 0 N) ∗ cred (tallyAt (recvCell c (sIx l st ch)) l.val N))
def R2 (c : Dev nD) (l : Fin 3) (st : Fin 2) (ch : Fin 4) : sProp 𝕄 :=
  iprop(semVal (sendCell c (sIx l st ch)) 0 ∗ semVal (recvCell c (sIx l st ch)) 0)
def B0 (c : Dev nD) (l : Fin 3) : sProp 𝕄 :=
  iprop(dutyTok ER (barCell (peer 0 c)) l.val false ∗ dutyTok ER (barCell (peer 1 c)) l.val true ∗ cred (tallyAt (barCell c) l.val 2))

/-! ## One chunk sent -/

/-- The copy of a send slot that reads `M l st ch c`. -/
theorem wp_copy_slot (c : Dev nD) (l : Fin 3) (st : Fin 2) (ch : Fin 4) (ds : List Due)
    {hsc : (rslot st ch : Memref sig (Dev.tc (peer st c) : Thread nD τ).2.kind .vmem S64x256 .f32).view.ref.isScScratch = false}
    {hsrc : (sslot st ch).view.WordExact} {hdst : (rslot st ch).view.WordExact}
    {hsem : DmaTarget.Typed .vmem (.dma (recvQ (sIx l st ch))) (.remote (Dev.tc (peer st c) : Thread nD τ) (rslot st ch) (.dma (sendQ (sIx l st ch))) hsc)}
    {α : Type} {Q : α → sProp 𝕄} {k : PUnit → PG F α}
    (fs : Buf (Elt F) ((sslot st ch).view.loc (c : Thread nD τ))) (hfs : (sslot st ch).view.read (Elt F) fs = M l st ch c)
    (fd : Buf (Elt F) ((rslot st ch).view.loc (peer st c : Thread nD τ))) (W : Waits sig ℕ) :
    iprop((records M K ∗ reached ER (barCell c) (l.val + 1)
        ∗ dutyTok ER (sendCell c (sIx l st ch)) 0 false ∗ dutyTok ER (recvCell (peer st c) (sIx l st ch)) 0 false)
        ∗ ((sslot st ch).view.loc (c : Thread nD τ) ↦[(sslot st ch).view.set]{fullShare} fs)
        ∗ ((rslot st ch).view.loc (peer st c : Thread nD τ) ↦[(rslot st ch).view.set]{fullShare} fd)
        ∗ owes (c : Thread nD τ) (owed c (.cpy l st ch :: ds)) W)
      ⊢ iprop(((cred (tallyAt (sendCell c (sIx l st ch)) 0 N) ∗ owes (c : Thread nD τ) (owed c ds) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sslot st ch) (.remote (Dev.tc (peer st c) : Thread nD τ) (rslot st ch) (.dma (sendQ (sIx l st ch))) hsc)
                (.dma (recvQ (sIx l st ch))) hsrc hdst hsem) k) Q) := by
  iintro ⟨⟨#HR, #Hb, HtS, HtV⟩, Hs, Hd, HO⟩
  iapply (Rounds.wp_send_pointsTo_with 𝒱₀ ER (rd M) (c : Thread nD τ) none
      (κ₁ := K (c, some (false, sIx l st ch))) (κ₂ := K (peer st c, some (true, sIx l st ch)))
      (r₁ := 0) (r₂ := 0) (d₁ := false) (d₂ := false) (fs := fs) (fd := fd) (F := reached ER (barCell c) (l.val + 1))
      (by rw [duties_send]; exact Finset.mem_singleton_self _) (by rw [duties_recv]; exact Finset.mem_singleton_self _)
      l.val 0 N rfl (amount_send M c _ false) (amount_recv M (peer st c) _ false) (owed c ds) rfl (W := W)
      (by rw [payload_send]; unfold sendPay sAny; rw [stageOf_sIx, chunkOf_sIx]; iintro H; iexists fs; iexact H)
      (by
        rw [payload_recv]; unfold recvPay rIs; rw [stageOf_sIx, chunkOf_sIx, layerOf_sIx, peer_peer, hfs]
        iintro ⟨H, #Hb⟩
        isplitl [H]
        · iexists ((rslot st ch).view.write (Elt F) fd (M l st ch c) Finset.univ)
          isplitr
          · ipureintro; exact View.read_write_univ _ _
          · iexact H
        · iexact Hb)) $$ [Hs Hd HO HtS HtV]
  isplitr; · iapply (inv_at M K (c, some (false, sIx l st ch))); iexact HR
  isplitr; · iapply (inv_at M K (peer st c, some (true, sIx l st ch))); iexact HR
  isplitl [Hs]; · iexact Hs
  isplitl [Hd]
  · isplitl [Hd]; · iexact Hd
    iexact Hb
  isplitl [HO]; · iexact HO
  isplitl [HtS]; · iexact HtS
  isplitr; · iapply (reached_at M K (c, some (false, sIx l st ch))); iexact HR
  isplitl [HtV]; · iexact HtV
  iapply (reached_at M K (peer st c, some (true, sIx l st ch))); iexact HR

theorem wp_sendChunk (c : Dev nD) (l : Fin 3) (st : Fin 2) (ch : Fin 4) (v : CV F) (hv : v = M l st ch c) (ds : List Due) (Q : PUnit → sProp 𝕄) :
    iprop((records M K ∗ reached ER (barCell c) (l.val + 1) ∗ R0 c l st ch ∗ sAny c st ch ∗ rAny (peer st c) st ch ∗ owe c (.cpy l st ch :: ds))
        ∗ ((R1 c l st ch ∗ owe c ds) -∗ Q ⟨⟩))
      ⊢ wp frame (wpE (defs₀ (F := F)) 𝒱₀ (c : Thread nD τ) none) Set.univ (sendChunk (peer st c) l st ch v) Q := by
  unfold sendChunk R0 sAny rAny owe
  simp only [Prog.lift, Prog.bind_op, Prog.bind_ret, Prog.pure_eq_ret]
  iintro ⟨⟨#HR, #Hb, ⟨HaS, HaV, HtS, HtV, HcV⟩, ⟨%fs, Hs⟩, ⟨%fd, Hd⟩, ⟨%W, HO⟩⟩, HQ⟩
  iapply (wp_load 𝒱₀ (c : Thread nD τ) none Set.univ (m := sndM) (r := (slotR st ch).toLoadRect) (S := (sslot st ch).view.set)
    (by rw [sslot_set, View.set_slice]; exact Finset.Subset.refl _)) $$ Hs
  iintro Hs
  iapply (wp_store 𝒱₀ (c : Thread nD τ) none Set.univ (m := sndM) (r := slotR st ch) (Mk := Finset.univ) (S := (sslot st ch).view.set)
    (by rw [sslot_set]; exact Finset.Subset.refl _)) $$ Hs
  iintro Hs
  iapply (wp_copy_slot M K c l st ch ds _ ((read_sslot_write st ch fs v).trans hv) fd W) $$ [Hs Hd HO HtS HtV]
  · isplitl [HtS HtV]
    · isplitr; · iexact HR
      isplitr; · iexact Hb
      isplitl [HtS] <;> iassumption
    isplitl [Hs]; · iexact Hs
    isplitl [Hd]; · iexact Hd
    iexact HO
  iintro ⟨HcS, HO⟩
  rw [wp_ret]; imodintro
  iapply HQ
  unfold R1
  isplitl [HaS HaV HcS HcV]
  · isplitl [HaS]; · iexact HaS
    isplitl [HaV]; · iexact HaV
    isplitl [HcS]; · iexact HcS
    iexact HcV
  iexists W; iexact HO

/-! ## One chunk received -/

theorem wp_recvChunk (c : Dev nD) (l : Fin 3) (st : Fin 2) (ch : Fin 4) (ds : List Due) (ha : Above (3 * l.val + 2 + st.val) ds) (Q : CV F → sProp 𝕄) :
    iprop((records M K ∗ levAts L lv ∗ R1 c l st ch ∗ owe c ds)
        ∗ ((reached ER (barCell (peer st c)) (l.val + 1) ∗ R2 c l st ch ∗ sAny c st ch ∗ rAny c st ch ∗ owe c ds) -∗ Q (M l st ch (peer st c))))
      ⊢ wp frame (wpE (defs₀ (F := F)) 𝒱₀ (c : Thread nD τ) none) Set.univ (recvChunk l st ch) Q := by
  unfold recvChunk R1 owe
  simp only [Prog.lift, Prog.bind_op, Prog.bind_ret, Prog.pure_eq_ret]
  iintro ⟨⟨#HR, #Hlev, ⟨HaS, HaV, HcS, HcV⟩, ⟨%W, HO⟩⟩, HQ⟩
  iapply (Rounds.wp_wait_rest_token 𝒱₀ ER (rd M) (c : Thread nD τ) none (κ := K (c, some (false, sIx l st ch)))
      (wpE_waitDma2_eq 𝒱₀ (c : Thread nD τ) none Set.univ) (Set.mem_univ _) 0 (O := owed c ds) (W := W) (R := 0) (m := 0) (T := ∅)
      (by rw [Nat.zero_add, expect_send])) $$ [HcS HO HaS]
  · isplitr; · iapply (inv_at M K (c, some (false, sIx l st ch))); iexact HR
    isplitl [HcS]; · iexact HcS
    isplitl [HO]; · iexact HO
    isplitr
    · iapply (mayWait (c := c) (mem_L c _ 0) (by rw [lv_other c _ (recvIx_send _)]; exact ha.mono (by omega))); iexact Hlev
    iexact HaS
  iintro ⟨HO, HaS, -, Hpay⟩
  ihave Hs := (Entails.of_eq (rest_send M c (sIx l st ch))) $$ Hpay
  iapply (Rounds.wp_wait_rest_token 𝒱₀ ER (rd M) (c : Thread nD τ) none (κ := K (c, some (true, sIx l st ch)))
      (wpE_waitDma2_eq 𝒱₀ (c : Thread nD τ) none Set.univ) (Set.mem_univ _) l.val (O := owed c ds) (R := 0) (m := 0) (T := ∅)
      (by rw [Nat.zero_add, expect_recv])) $$ [HcV HO HaV]
  · isplitr; · iapply (inv_at M K (c, some (true, sIx l st ch))); iexact HR
    isplitl [HcV]; · iexact HcV
    isplitl [HO]; · iexact HO
    isplitr
    · iapply (mayWait (c := c) (mem_L c _ l) (by rw [lv_recv]; exact ha)); iexact Hlev
    iexact HaV
  iintro ⟨HO, HaV, -, Hpay⟩
  ihave Hr := (Entails.of_eq (rest_recv M c (sIx l st ch))) $$ Hpay
  unfold recvPay sendPay rIs
  rw [stageOf_sIx, chunkOf_sIx, layerOf_sIx]
  icases Hr with ⟨⟨%f, %hf, Hr⟩, #Hb⟩
  imod (Rounds.cell_close ER (rd M) (Set.mem_univ (K (c, some (false, sIx l st ch)))) (fun h => h) (R := 0 + 1) (duties_dma_later M c _)) $$ [HaS] with HzS
  · isplitr; · iapply (inv_at M K (c, some (false, sIx l st ch))); iexact HR
    iexact HaS
  imod (Rounds.cell_close ER (rd M) (Set.mem_univ (K (c, some (true, sIx l st ch)))) (fun h => h) (R := 0 + 1) (duties_dma_later M c _)) $$ [HaV] with HzV
  · isplitr; · iapply (inv_at M K (c, some (true, sIx l st ch))); iexact HR
    iexact HaV
  iapply (wp_load 𝒱₀ (c : Thread nD τ) none Set.univ (m := rcvM) (r := (slotR st ch).toLoadRect) (S := (rslot st ch).view.set)
    (by rw [rslot_set, View.set_slice]; exact Finset.Subset.refl _)) $$ Hr
  iintro Hr
  rw [wp_ret]; imodintro
  rw [read_rslot, hf]
  iapply HQ
  unfold R2 rAny
  isplitr; · iexact Hb
  isplitl [HzS HzV]
  · isplitl [HzS] <;> iassumption
  isplitl [Hs]; · iexact Hs
  isplitl [Hr]; · iexists f; iexact Hr
  iexists _; iexact HO

/-! ## The handshake of a layer -/

theorem wp_handshake (c : Dev nD) (l : Fin 3) (ds : List Due) (ha : Above (3 * l.val + 1) ds) (Q : PUnit → sProp 𝕄) :
    iprop((records M K ∗ levAts L lv ∗ B0 c l ∗ atPos ER (barCell c) l.val ∅ 0
          ∗ reached ER (barCell (peer 0 c)) l.val ∗ reached ER (barCell (peer 1 c)) l.val
          ∗ (four fun ch => rAny c 0 ch) ∗ (four fun ch => rAny c 1 ch) ∗ owe c (.bar l 0 :: .bar l 1 :: ds))
        ∗ ((atPos ER (barCell c) (l.val + 1) ∅ 0 ∗ reached ER (barCell c) (l.val + 1)
            ∗ (four fun ch => rAny (peer 0 c) 0 ch) ∗ (four fun ch => rAny (peer 1 c) 1 ch) ∗ owe c ds) -∗ Q ⟨⟩))
      ⊢ wp frame (wpE (defs₀ (F := F)) 𝒱₀ (c : Thread nD τ) none) Set.univ (handshake (peer 0 c) (peer 1 c)) Q := by
  unfold handshake B0 owe
  simp only [semSignalWord, semWaitWord, Prog.lift, Prog.bind_op, Prog.bind_ret, Prog.pure_eq_ret]
  iintro ⟨⟨#HR, #Hlev, ⟨Ht0, Ht1, HcB⟩, HaB, #Hr0, #Hr1, Hs0, Hs1, ⟨%W, HO⟩⟩, HQ⟩
  iapply (Rounds.wp_signal 𝒱₀ ER (rd M) (c : Thread nD τ) none (dst := (peer 0 c : Thread nD τ)) (κ := K (peer 0 c, none)) (r := l.val)
      (d := false) (by rw [duties_bar M _ _ l.isLt]; exact Finset.mem_univ _) ((amount_bar M (peer 0 c) _ false).trans (by decide)) l.val (owed c (.bar l 1 :: ds)) rfl)
    $$ [HO Ht0 Hs0]
  · isplitr; · iapply (inv_at M K (peer 0 c, none)); iexact HR
    isplitl [HO]; · iexact HO
    isplitl [Ht0]; · iexact Ht0
    isplitl [Hs0]
    · rw [payload_bar_false]; unfold barPay; rw [peer_peer]; iexact Hs0
    iexact Hr0
  iintro HO
  iapply (Rounds.wp_signal 𝒱₀ ER (rd M) (c : Thread nD τ) none (dst := (peer 1 c : Thread nD τ)) (κ := K (peer 1 c, none)) (r := l.val)
      (d := true) (by rw [duties_bar M _ _ l.isLt]; exact Finset.mem_univ _) ((amount_bar M (peer 1 c) _ true).trans (by decide)) l.val (owed c ds) rfl)
    $$ [HO Ht1 Hs1]
  · isplitr; · iapply (inv_at M K (peer 1 c, none)); iexact HR
    isplitl [HO]; · iexact HO
    isplitl [Ht1]; · iexact Ht1
    isplitl [Hs1]
    · rw [payload_bar_true]; unfold barPay; rw [peer_peer]; iexact Hs1
    iexact Hr1
  iintro HO
  iapply (Rounds.wp_wait_rest_token 𝒱₀ ER (rd M) (c : Thread nD τ) none (κ := K (c, none))
      (wpE_semWait_eq 𝒱₀ (c : Thread nD τ) none Set.univ) (Set.mem_univ _) l.val (O := owed c ds) (W := W) (R := l.val) (m := 0) (T := ∅)
      (by rw [expect_bar M c _ l.isLt]; decide)) $$ [HcB HO HaB]
  · isplitr; · iapply (inv_at M K (c, none)); iexact HR
    isplitl [HcB]; · iexact HcB
    isplitl [HO]; · iexact HO
    isplitr
    · iapply (mayWait (c := c) (mem_L c _ l) (by rw [lv_bar]; exact ha)); iexact Hlev
    iexact HaB
  iintro ⟨HO, HaB, #Hr, Hpay⟩
  ihave Hp := (Entails.of_eq (rest_bar M c l.val l.isLt)) $$ Hpay
  unfold barPay
  icases Hp with ⟨Hp0, Hp1⟩
  rw [wp_ret]; imodintro
  iapply HQ
  isplitl [HaB]; · iexact HaB
  isplitr; · iexact Hr
  isplitl [Hp0]; · iexact Hp0
  isplitl [Hp1]; · iexact Hp1
  iexists _; iexact HO

end Cert.KernelIdealProof

end
-- ==== Proof.KernelIdealLayers.lean ====
/-
# The stretches of a layer

From the three moves: a layer's first products sent, the first sums sent, the layer's result folded into the next
layer's first product, and the last layer's result stored.
-/
module

public import proofs.«01_k».proof.Proof.KernelIdealMoves
public import Idealize.ShloMosaic.Lib.WritesUnit

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

omit [FloatOps F] in
/-- A load from a buffer held at contents `X`. -/
theorem wp_load_owns (c : Dev nD) {s : Shape} {e : EltTy} {m : Memref sig .tc .vmem s e} {r : Rect s} {hl : m.view.LoadsAt r.toLoadRect}
    {α : Type} {Q : α → sProp 𝕄} {k : (r.shape.Idx → Elt F e) → PG F α} [FloatOps F] (X : s.Idx → Elt F e) :
    (owns (c : Thread nD τ) m fullShare X : sProp 𝕄)
      ⊢ iprop((owns (c : Thread nD τ) m fullShare X -∗ wp frame (wpE (defs₀ (F := F)) 𝒱₀ (c : Thread nD τ) none) Set.univ (k (View.ld X r)) Q)
        -∗ wp frame (wpE (defs₀ (F := F)) 𝒱₀ (c : Thread nD τ) none) Set.univ (.op (.load m r.toLoadRect hl) k) Q) := by
  unfold owns
  iintro ⟨%f, %hf, H⟩ HQ
  subst hf
  iapply (wp_load 𝒱₀ (c : Thread nD τ) none Set.univ (m := m) (r := r.toLoadRect) (S := m.view.set)
    (by rw [← View.setOn_univ]; exact Finset.map_subset_map.mpr (Finset.subset_univ _))) $$ H
  iintro H
  iapply HQ
  iexists f
  isplitr
  · ipureintro; rfl
  · iexact H

variable (M : Sent F) (K : Dev nD × CK → ℕ)

/-- A value for each chunk, as the stretches carry them. -/
abbrev all4 {α : Type} (p : Fin 4 → α) : α × α × α × α := (p 0, p 1, p 2, p 3)

/-! ## The first products -/

theorem wp_stepA (c : Dev nD) (l : Fin 3) (ch : Fin 4) (d : Fin 4 → Dev nD) (hd : d ch = peer 0 c) (h : HV F) (w : Vec F S2048x1024 .f32)
    (hM : M l 0 ch c = dotC h (View.ld w (colR ch))) (ds : List Due) (Q : CV F → sProp 𝕄) :
    iprop((records M K ∗ reached ER (barCell c) (l.val + 1) ∗ owns (c : Thread nD τ) (woutM l) fullShare w
          ∗ R0 c l 0 ch ∗ sAny c 0 ch ∗ rAny (peer 0 c) 0 ch ∗ owe c (.cpy l 0 ch :: ds))
        ∗ ((owns (c : Thread nD τ) (woutM l) fullShare w ∗ R1 c l 0 ch ∗ owe c ds) -∗ Q (M l 0 ch c)))
      ⊢ wp frame (wpE (defs₀ (F := F)) 𝒱₀ (c : Thread nD τ) none) Set.univ (stepA d l h ch) Q := by
  unfold stepA
  rw [hd]
  simp only [Prog.lift, Prog.bind_op, Prog.bind_ret]
  iintro ⟨⟨#HR, #Hb, Hw, H0, Hs, Hr, HO⟩, HQ⟩
  iapply (wp_load_owns c w) $$ Hw
  iintro Hw
  rw [wp_bind]
  iapply (wp_sendChunk M K c l 0 ch _ hM.symm ds)
  isplitl [H0 Hs Hr HO]
  · isplitr; · iexact HR
    isplitr; · iexact Hb
    isplitl [H0]; · iexact H0
    isplitl [Hs]; · iexact Hs
    isplitl [Hr]; · iexact Hr
    iexact HO
  iintro ⟨H1, HO⟩
  simp only [Prog.pure_eq_ret]
  rw [wp_ret]; imodintro
  rw [← hM]
  iapply HQ
  isplitl [Hw]; · iexact Hw
  isplitl [H1] <;> iassumption

theorem wp_layerA (c : Dev nD) (l : Fin 3) (d : Fin 4 → Dev nD) (hd : ∀ ch, d ch = peer 0 c) (h : HV F) (w : Vec F S2048x1024 .f32)
    (hM : ∀ ch, M l 0 ch c = dotC h (View.ld w (colR ch))) (ds : List Due) (Q : C4 F → sProp 𝕄) :
    iprop((records M K ∗ reached ER (barCell c) (l.val + 1) ∗ owns (c : Thread nD τ) (woutM l) fullShare w
          ∗ (four fun ch => R0 c l 0 ch) ∗ (four fun ch => sAny c 0 ch) ∗ (four fun ch => rAny (peer 0 c) 0 ch)
          ∗ owe c (.cpy l 0 0 :: .cpy l 0 1 :: .cpy l 0 2 :: .cpy l 0 3 :: ds))
        ∗ ((owns (c : Thread nD τ) (woutM l) fullShare w ∗ (four fun ch => R1 c l 0 ch) ∗ owe c ds) -∗ Q (all4 fun ch => M l 0 ch c)))
      ⊢ wp frame (wpE (defs₀ (F := F)) 𝒱₀ (c : Thread nD τ) none) Set.univ (layerA d l h) Q := by
  unfold layerA
  iintro ⟨⟨#HR, #Hb, Hw, ⟨H0, H1, H2, H3⟩, ⟨Hs0, Hs1, Hs2, Hs3⟩, ⟨Hr0, Hr1, Hr2, Hr3⟩, HO⟩, HQ⟩
  rw [wp_bind]
  iapply (wp_stepA M K c l 0 d (hd 0) h w (hM 0) _)
  isplitl [Hw H0 Hs0 Hr0 HO]
  · isplitr; · iexact HR
    isplitr; · iexact Hb
    isplitl [Hw]; · iexact Hw
    isplitl [H0]; · iexact H0
    isplitl [Hs0]; · iexact Hs0
    isplitl [Hr0] <;> iassumption
  iintro ⟨Hw, H0, HO⟩
  rw [wp_bind]
  iapply (wp_stepA M K c l 1 d (hd 1) h w (hM 1) _)
  isplitl [Hw H1 Hs1 Hr1 HO]
  · isplitr; · iexact HR
    isplitr; · iexact Hb
    isplitl [Hw]; · iexact Hw
    isplitl [H1]; · iexact H1
    isplitl [Hs1]; · iexact Hs1
    isplitl [Hr1] <;> iassumption
  iintro ⟨Hw, H1, HO⟩
  rw [wp_bind]
  iapply (wp_stepA M K c l 2 d (hd 2) h w (hM 2) _)
  isplitl [Hw H2 Hs2 Hr2 HO]
  · isplitr; · iexact HR
    isplitr; · iexact Hb
    isplitl [Hw]; · iexact Hw
    isplitl [H2]; · iexact H2
    isplitl [Hs2]; · iexact Hs2
    isplitl [Hr2] <;> iassumption
  iintro ⟨Hw, H2, HO⟩
  rw [wp_bind]
  iapply (wp_stepA M K c l 3 d (hd 3) h w (hM 3) _)
  isplitl [Hw H3 Hs3 Hr3 HO]
  · isplitr; · iexact HR
    isplitr; · iexact Hb
    isplitl [Hw]; · iexact Hw
    isplitl [H3]; · iexact H3
    isplitl [Hs3]; · iexact Hs3
    isplitl [Hr3] <;> iassumption
  iintro ⟨Hw, H3, HO⟩
  simp only [Prog.pure_eq_ret]
  rw [wp_ret]; imodintro
  iapply HQ
  isplitl [Hw]; · iexact Hw
  isplitl [H0 H1 H2 H3]
  · isplitl [H0]; · iexact H0
    isplitl [H1]; · iexact H1
    isplitl [H2] <;> iassumption
  iexact HO

/-! ## The first sums -/

theorem wp_stepB (c : Dev nD) (l : Fin 3) (ch : Fin 4) (d : Fin 4 → Dev nD) (hd : d ch = peer 1 c)
    (hM : M l 1 ch c = addf (M l 0 ch c) (M l 0 ch (peer 0 c))) (ds : List Due) (ha : Above (3 * l.val + 2) (.cpy l 1 ch :: ds)) (Q : CV F → sProp 𝕄) :
    iprop((records M K ∗ levAts L lv ∗ reached ER (barCell c) (l.val + 1) ∗ R1 c l 0 ch
          ∗ R0 c l 1 ch ∗ sAny c 1 ch ∗ rAny (peer 1 c) 1 ch ∗ owe c (.cpy l 1 ch :: ds))
        ∗ ((reached ER (barCell (peer 0 c)) (l.val + 1) ∗ R2 c l 0 ch ∗ sAny c 0 ch ∗ rAny c 0 ch ∗ R1 c l 1 ch ∗ owe c ds) -∗ Q (M l 1 ch c)))
      ⊢ wp frame (wpE (defs₀ (F := F)) 𝒱₀ (c : Thread nD τ) none) Set.univ (stepB d l (M l 0 ch c) ch) Q := by
  unfold stepB
  rw [hd]
  iintro ⟨⟨#HR, #Hlev, #Hb, H1, H0, Hs, Hr, HO⟩, HQ⟩
  rw [wp_bind]
  iapply (wp_recvChunk M K c l 0 ch _ ha)
  isplitl [H1 HO]
  · isplitr; · iexact HR
    isplitr; · iexact Hlev
    isplitl [H1] <;> iassumption
  iintro ⟨#Hbp, H2, Hs0, Hr0, HO⟩
  rw [wp_bind]
  iapply (wp_sendChunk M K c l 1 ch _ hM.symm ds)
  isplitl [H0 Hs Hr HO]
  · isplitr; · iexact HR
    isplitr; · iexact Hb
    isplitl [H0]; · iexact H0
    isplitl [Hs]; · iexact Hs
    isplitl [Hr] <;> iassumption
  iintro ⟨H1, HO⟩
  simp only [Prog.pure_eq_ret]
  rw [wp_ret]; imodintro
  rw [← hM]
  iapply HQ
  isplitr; · iexact Hbp
  isplitl [H2]; · iexact H2
  isplitl [Hs0]; · iexact Hs0
  isplitl [Hr0]; · iexact Hr0
  isplitl [H1] <;> iassumption

theorem wp_layerB (c : Dev nD) (l : Fin 3) (d : Fin 4 → Dev nD) (hd : ∀ ch, d ch = peer 1 c)
    (hM : ∀ ch, M l 1 ch c = addf (M l 0 ch c) (M l 0 ch (peer 0 c))) (ds : List Due) (ha : Above (3 * l.val + 3) ds) (Q : C4 F → sProp 𝕄) :
    iprop((records M K ∗ levAts L lv ∗ reached ER (barCell c) (l.val + 1) ∗ (four fun ch => R1 c l 0 ch)
          ∗ (four fun ch => R0 c l 1 ch) ∗ (four fun ch => sAny c 1 ch) ∗ (four fun ch => rAny (peer 1 c) 1 ch)
          ∗ owe c (.cpy l 1 0 :: .cpy l 1 1 :: .cpy l 1 2 :: .cpy l 1 3 :: ds))
        ∗ ((reached ER (barCell (peer 0 c)) (l.val + 1) ∗ (four fun ch => R2 c l 0 ch) ∗ (four fun ch => sAny c 0 ch) ∗ (four fun ch => rAny c 0 ch)
            ∗ (four fun ch => R1 c l 1 ch) ∗ owe c ds) -∗ Q (all4 fun ch => M l 1 ch c)))
      ⊢ wp frame (wpE (defs₀ (F := F)) 𝒱₀ (c : Thread nD τ) none) Set.univ (layerB d l (all4 fun ch => M l 0 ch c)) Q := by
  unfold layerB
  have a0 : Above (3 * l.val + 2) ds := ha.mono (by omega)
  have a (ch : Fin 4) : ∀ {ds}, Above (3 * l.val + 2) ds → Above (3 * l.val + 2) (.cpy l 1 ch :: ds) := fun h => h.cons (Nat.lt_succ_self _)
  iintro ⟨⟨#HR, #Hlev, #Hb, ⟨H0, H1, H2, H3⟩, ⟨Hn0, Hn1, Hn2, Hn3⟩, ⟨Hs0, Hs1, Hs2, Hs3⟩, ⟨Hr0, Hr1, Hr2, Hr3⟩, HO⟩, HQ⟩
  rw [wp_bind]
  iapply (wp_stepB M K c l 0 d (hd 0) (hM 0) _ (a 0 (a 1 (a 2 (a 3 a0)))))
  isplitl [H0 Hn0 Hs0 Hr0 HO]
  · isplitr; · iexact HR
    isplitr; · iexact Hlev
    isplitr; · iexact Hb
    isplitl [H0]; · iexact H0
    isplitl [Hn0]; · iexact Hn0
    isplitl [Hs0]; · iexact Hs0
    isplitl [Hr0] <;> iassumption
  iintro ⟨#Hbp, H0, Hs0, Hr0, Hn0, HO⟩
  rw [wp_bind]
  iapply (wp_stepB M K c l 1 d (hd 1) (hM 1) _ (a 1 (a 2 (a 3 a0))))
  isplitl [H1 Hn1 Hs1 Hr1 HO]
  · isplitr; · iexact HR
    isplitr; · iexact Hlev
    isplitr; · iexact Hb
    isplitl [H1]; · iexact H1
    isplitl [Hn1]; · iexact Hn1
    isplitl [Hs1]; · iexact Hs1
    isplitl [Hr1] <;> iassumption
  iintro ⟨-, H1, Hs1, Hr1, Hn1, HO⟩
  rw [wp_bind]
  iapply (wp_stepB M K c l 2 d (hd 2) (hM 2) _ (a 2 (a 3 a0)))
  isplitl [H2 Hn2 Hs2 Hr2 HO]
  · isplitr; · iexact HR
    isplitr; · iexact Hlev
    isplitr; · iexact Hb
    isplitl [H2]; · iexact H2
    isplitl [Hn2]; · iexact Hn2
    isplitl [Hs2]; · iexact Hs2
    isplitl [Hr2] <;> iassumption
  iintro ⟨-, H2, Hs2, Hr2, Hn2, HO⟩
  rw [wp_bind]
  iapply (wp_stepB M K c l 3 d (hd 3) (hM 3) _ (a 3 a0))
  isplitl [H3 Hn3 Hs3 Hr3 HO]
  · isplitr; · iexact HR
    isplitr; · iexact Hlev
    isplitr; · iexact Hb
    isplitl [H3]; · iexact H3
    isplitl [Hn3]; · iexact Hn3
    isplitl [Hs3]; · iexact Hs3
    isplitl [Hr3] <;> iassumption
  iintro ⟨-, H3, Hs3, Hr3, Hn3, HO⟩
  simp only [Prog.pure_eq_ret]
  rw [wp_ret]; imodintro
  iapply HQ
  isplitr; · iexact Hbp
  isplitl [H0 H1 H2 H3]
  · isplitl [H0]; · iexact H0
    isplitl [H1]; · iexact H1
    isplitl [H2] <;> iassumption
  isplitl [Hs0 Hs1 Hs2 Hs3]
  · isplitl [Hs0]; · iexact Hs0
    isplitl [Hs1]; · iexact Hs1
    isplitl [Hs2] <;> iassumption
  isplitl [Hr0 Hr1 Hr2 Hr3]
  · isplitl [Hr0]; · iexact Hr0
    isplitl [Hr1]; · iexact Hr1
    isplitl [Hr2] <;> iassumption
  isplitl [Hn0 Hn1 Hn2 Hn3]
  · isplitl [Hn0]; · iexact Hn0
    isplitl [Hn1]; · iexact Hn1
    isplitl [Hn2] <;> iassumption
  iexact HO

/-! ## The layer's result into the next layer's first product -/

/-- A chunk of layer `l`'s result, as device `c` sums it. -/
def resC (l : Fin 3) (c : Dev nD) (ch : Fin 4) : CV F := addf (M l 1 ch c) (M l 1 ch (peer 1 c))
/-- The next layer's hidden activations, from the four chunks by their rows of `w`. -/
def hid (l : Fin 3) (c : Dev nD) (w : Vec F S1024x2048 .f32) : HV F :=
  reluV (addf (addf (addf (dotR (resC M l c 0) (View.ld w (rowR 0))) (dotR (resC M l c 1) (View.ld w (rowR 1))))
    (dotR (resC M l c 2) (View.ld w (rowR 2)))) (dotR (resC M l c 3) (View.ld w (rowR 3))))

theorem wp_stepC (c : Dev nD) (l l' : Fin 3) (ch : Fin 4) (w : Vec F S1024x2048 .f32) (ds : List Due) (ha : Above (3 * l.val + 3) ds) (Q : HV F → sProp 𝕄) :
    iprop((records M K ∗ levAts L lv ∗ owns (c : Thread nD τ) (winM l') fullShare w ∗ R1 c l 1 ch ∗ owe c ds)
        ∗ ((reached ER (barCell (peer 1 c)) (l.val + 1) ∗ owns (c : Thread nD τ) (winM l') fullShare w ∗ R2 c l 1 ch ∗ sAny c 1 ch ∗ rAny c 1 ch ∗ owe c ds)
            -∗ Q (dotR (resC M l c ch) (View.ld w (rowR ch)))))
      ⊢ wp frame (wpE (defs₀ (F := F)) 𝒱₀ (c : Thread nD τ) none) Set.univ (stepC l l' (M l 1 ch c) ch) Q := by
  unfold stepC
  iintro ⟨⟨#HR, #Hlev, Hw, H1, HO⟩, HQ⟩
  rw [wp_bind]
  iapply (wp_recvChunk M K c l 1 ch _ ha)
  isplitl [H1 HO]
  · isplitr; · iexact HR
    isplitr; · iexact Hlev
    isplitl [H1] <;> iassumption
  iintro ⟨#Hbp, H2, Hs, Hr, HO⟩
  simp only [Prog.lift, Prog.bind_op, Prog.bind_ret]
  iapply (wp_load_owns c w) $$ Hw
  iintro Hw
  simp only [Prog.pure_eq_ret]
  rw [wp_ret]; imodintro
  rw [show addf (M l 1 ch c) (M l 1 ch (peer 1 c)) = resC M l c ch from rfl]
  iapply HQ
  isplitr; · iexact Hbp
  isplitl [Hw]; · iexact Hw
  isplitl [H2]; · iexact H2
  isplitl [Hs]; · iexact Hs
  isplitl [Hr] <;> iassumption

theorem wp_layerC (c : Dev nD) (l l' : Fin 3) (w : Vec F S1024x2048 .f32) (ds : List Due) (ha : Above (3 * l.val + 3) ds) (Q : HV F → sProp 𝕄) :
    iprop((records M K ∗ levAts L lv ∗ owns (c : Thread nD τ) (winM l') fullShare w ∗ (four fun ch => R1 c l 1 ch) ∗ owe c ds)
        ∗ ((reached ER (barCell (peer 1 c)) (l.val + 1) ∗ owns (c : Thread nD τ) (winM l') fullShare w
            ∗ (four fun ch => R2 c l 1 ch) ∗ (four fun ch => sAny c 1 ch) ∗ (four fun ch => rAny c 1 ch) ∗ owe c ds)
            -∗ Q (hid M l c w)))
      ⊢ wp frame (wpE (defs₀ (F := F)) 𝒱₀ (c : Thread nD τ) none) Set.univ (layerC l l' (all4 fun ch => M l 1 ch c)) Q := by
  unfold layerC
  iintro ⟨⟨#HR, #Hlev, Hw, ⟨H0, H1, H2, H3⟩, HO⟩, HQ⟩
  rw [wp_bind]
  iapply (wp_stepC M K c l l' 0 w ds ha)
  isplitl [Hw H0 HO]
  · isplitr; · iexact HR
    isplitr; · iexact Hlev
    isplitl [Hw]; · iexact Hw
    isplitl [H0] <;> iassumption
  iintro ⟨#Hbp, Hw, H0, Hs0, Hr0, HO⟩
  rw [wp_bind]
  iapply (wp_stepC M K c l l' 1 w ds ha)
  isplitl [Hw H1 HO]
  · isplitr; · iexact HR
    isplitr; · iexact Hlev
    isplitl [Hw]; · iexact Hw
    isplitl [H1] <;> iassumption
  iintro ⟨-, Hw, H1, Hs1, Hr1, HO⟩
  rw [wp_bind]
  iapply (wp_stepC M K c l l' 2 w ds ha)
  isplitl [Hw H2 HO]
  · isplitr; · iexact HR
    isplitr; · iexact Hlev
    isplitl [Hw]; · iexact Hw
    isplitl [H2] <;> iassumption
  iintro ⟨-, Hw, H2, Hs2, Hr2, HO⟩
  rw [wp_bind]
  iapply (wp_stepC M K c l l' 3 w ds ha)
  isplitl [Hw H3 HO]
  · isplitr; · iexact HR
    isplitr; · iexact Hlev
    isplitl [Hw]; · iexact Hw
    isplitl [H3] <;> iassumption
  iintro ⟨-, Hw, H3, Hs3, Hr3, HO⟩
  simp only [Prog.pure_eq_ret]
  rw [wp_ret]; imodintro
  unfold hid
  iapply HQ
  isplitr; · iexact Hbp
  isplitl [Hw]; · iexact Hw
  isplitl [H0 H1 H2 H3]
  · isplitl [H0]; · iexact H0
    isplitl [H1]; · iexact H1
    isplitl [H2] <;> iassumption
  isplitl [Hs0 Hs1 Hs2 Hs3]
  · isplitl [Hs0]; · iexact Hs0
    isplitl [Hs1]; · iexact Hs1
    isplitl [Hs2] <;> iassumption
  isplitl [Hr0 Hr1 Hr2 Hr3]
  · isplitl [Hr0]; · iexact Hr0
    isplitl [Hr1]; · iexact Hr1
    isplitl [Hr2] <;> iassumption
  iexact HO

/-! ## The last layer's result stored -/

/-- The result on device `c`: at column `256 * ch + j`, chunk `ch` at column `j`. -/
def resV (l : Fin 3) (c : Dev nD) : Vec F S64x1024 .f32 := fun i =>
  resC M l c ⟨(i (1 : Fin 2)).val / 256, by have : (i (1 : Fin 2)).val < 1024 := (i (1 : Fin 2)).isLt; omega⟩
    (fun a => match a with
      | ⟨0, _⟩ => ⟨(i (0 : Fin 2)).val, (i (0 : Fin 2)).isLt⟩
      | ⟨1, _⟩ => ⟨(i (1 : Fin 2)).val % 256, Nat.mod_lt _ (by decide)⟩)

/-- The first `n` chunks of the result are stored. -/
def outPts (c : Dev nD) (n : ℕ) : sProp 𝕄 :=
  iprop(∃ f : Vec F S64x1024 .f32, ⌜∀ i : S64x1024.Idx, (i (1 : Fin 2)).val < 256 * n → f i = resV M 2 c i⌝
    ∗ (((c : Thread nD τ).loc cc0_stg7_0) ↦{fullShare} f))

omit [FloatOps F] in
theorem outM_write_mem (ch : Fin 4) (f : Vec F S64x1024 .f32) (v : CV F) (i : S64x1024.Idx) (hi : (i (1 : Fin 2)).val / 256 = ch.val) :
    ((outM.access (outR ch) : View sig .tc _ _ _).write (Elt F) f v Finset.univ : Vec F S64x1024 .f32) i
      = v (fun a => match a with
      | ⟨0, _⟩ => ⟨(i (0 : Fin 2)).val, (i (0 : Fin 2)).isLt⟩
      | ⟨1, _⟩ => ⟨(i (1 : Fin 2)).val % 256, Nat.mod_lt _ (by decide)⟩) := by
  refine View.read_writes_cons_unit_of_mem outM.view f (out_inb ch) v [] i _ rfl ?_
  refine Fin.forall_fin_two.mpr ⟨?_, ?_⟩
  · show (i (0 : Fin 2)).val = 0 + (i (0 : Fin 2)).val
    omega
  · show (i (1 : Fin 2)).val = ch.val * 256 + (i (1 : Fin 2)).val % 256
    omega

omit [FloatOps F] in
theorem outM_write_not (ch : Fin 4) (f : Vec F S64x1024 .f32) (v : CV F) (i : S64x1024.Idx) (hi : (i (1 : Fin 2)).val / 256 ≠ ch.val) :
    ((outM.access (outR ch) : View sig .tc _ _ _).write (Elt F) f v Finset.univ : Vec F S64x1024 .f32) i = f i := by
  refine View.read_writes_cons_unit_of_not_mem outM.view f (out_inb ch) v [] i rfl (1 : Fin 2) ?_
  show (i (1 : Fin 2)).val < ch.val * 256 ∨ ch.val * 256 + 256 ≤ (i (1 : Fin 2)).val
  omega

theorem wp_stepD (c : Dev nD) (ch : Fin 4) (Q : PUnit → sProp 𝕄) :
    iprop((records M K ∗ levAts L lv ∗ R1 c 2 1 ch ∗ outPts M c ch.val ∗ owe c [])
        ∗ ((R2 c 2 1 ch ∗ sAny c 1 ch ∗ rAny c 1 ch ∗ outPts M c (ch.val + 1) ∗ owe c []) -∗ Q ⟨⟩))
      ⊢ wp frame (wpE (defs₀ (F := F)) 𝒱₀ (c : Thread nD τ) none) Set.univ (stepD (M 2 1 ch c) ch) Q := by
  unfold stepD
  iintro ⟨⟨#HR, #Hlev, H1, Hout, HO⟩, HQ⟩
  rw [wp_bind]
  iapply (wp_recvChunk M K c 2 1 ch _ (Above.nil _))
  isplitl [H1 HO]
  · isplitr; · iexact HR
    isplitr; · iexact Hlev
    isplitl [H1] <;> iassumption
  iintro ⟨-, H2, Hs, Hr, HO⟩
  unfold outPts
  icases Hout with ⟨%f, %hf, Hout⟩
  simp only [Prog.lift, Prog.bind_op, Prog.bind_ret]
  iapply (wp_load 𝒱₀ (c : Thread nD τ) none Set.univ (m := outM) (r := (outR ch).toLoadRect) (Finset.subset_univ _)) $$ Hout
  iintro Hout
  iapply (wp_store 𝒱₀ (c : Thread nD τ) none Set.univ (m := outM) (r := outR ch) (Mk := Finset.univ) (Finset.subset_univ _)) $$ Hout
  iintro Hout
  rw [wp_ret]; imodintro
  iapply HQ
  isplitl [H2]; · iexact H2
  isplitl [Hs]; · iexact Hs
  isplitl [Hr]; · iexact Hr
  isplitl [Hout]
  · iexists ((outM.access (outR ch) : View sig .tc _ _ _).write (Elt F) f (resC M 2 c ch) Finset.univ)
    isplitr
    · ipureintro
      intro i hi
      by_cases h : (i (1 : Fin 2)).val / 256 = ch.val
      · rw [outM_write_mem ch f _ i h]
        have e : (⟨(i (1 : Fin 2)).val / 256, h ▸ ch.isLt⟩ : Fin 4) = ch := Fin.ext h
        show _ = resC M 2 c ⟨(i (1 : Fin 2)).val / 256, h ▸ ch.isLt⟩ _
        rw [e]
      · rw [outM_write_not ch f _ i h]
        exact hf i (by omega)
    · iexact Hout
  iexact HO

theorem wp_layerD (c : Dev nD) (Q : PUnit → sProp 𝕄) :
    iprop((records M K ∗ levAts L lv ∗ (four fun ch => R1 c 2 1 ch) ∗ outPts M c 0 ∗ owe c [])
        ∗ (((four fun ch => R2 c 2 1 ch) ∗ (four fun ch => sAny c 1 ch) ∗ (four fun ch => rAny c 1 ch) ∗ outPts M c 4 ∗ owe c []) -∗ Q ⟨⟩))
      ⊢ wp frame (wpE (defs₀ (F := F)) 𝒱₀ (c : Thread nD τ) none) Set.univ (layerD (all4 fun ch => M 2 1 ch c)) Q := by
  unfold layerD
  iintro ⟨⟨#HR, #Hlev, ⟨H0, H1, H2, H3⟩, Hout, HO⟩, HQ⟩
  rw [wp_bind]
  iapply (wp_stepD M K c 0)
  isplitl [H0 Hout HO]
  · isplitr; · iexact HR
    isplitr; · iexact Hlev
    isplitl [H0]; · iexact H0
    isplitl [Hout]; · iexact Hout
    iexact HO
  iintro ⟨H0, Hs0, Hr0, Hout, HO⟩
  rw [wp_bind]
  iapply (wp_stepD M K c 1)
  isplitl [H1 Hout HO]
  · isplitr; · iexact HR
    isplitr; · iexact Hlev
    isplitl [H1]; · iexact H1
    isplitl [Hout]; · iexact Hout
    iexact HO
  iintro ⟨H1, Hs1, Hr1, Hout, HO⟩
  rw [wp_bind]
  iapply (wp_stepD M K c 2)
  isplitl [H2 Hout HO]
  · isplitr; · iexact HR
    isplitr; · iexact Hlev
    isplitl [H2]; · iexact H2
    isplitl [Hout]; · iexact Hout
    iexact HO
  iintro ⟨H2, Hs2, Hr2, Hout, HO⟩
  iapply (wp_stepD M K c 3)
  isplitl [H3 Hout HO]
  · isplitr; · iexact HR
    isplitr; · iexact Hlev
    isplitl [H3]; · iexact H3
    isplitl [Hout]; · iexact Hout
    iexact HO
  iintro ⟨H3, Hs3, Hr3, Hout, HO⟩
  iapply HQ
  isplitl [H0 H1 H2 H3]
  · isplitl [H0]; · iexact H0
    isplitl [H1]; · iexact H1
    isplitl [H2] <;> iassumption
  isplitl [Hs0 Hs1 Hs2 Hs3]
  · isplitl [Hs0]; · iexact Hs0
    isplitl [Hs1]; · iexact Hs1
    isplitl [Hs2] <;> iassumption
  isplitl [Hr0 Hr1 Hr2 Hr3]
  · isplitl [Hr0]; · iexact Hr0
    isplitl [Hr1]; · iexact Hr1
    isplitl [Hr2] <;> iassumption
  isplitl [Hout]; · iexact Hout
  iexact HO

end Cert.KernelIdealProof

end
-- ==== Proof.KernelIdealBody.lean ====
/-
# The whole body

The values the three layers send, from the arguments, and the body of a device run through its stretches.
-/
module

public import proofs.«01_k».proof.Proof.KernelIdealLayers

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The values -/

/-- The arguments, on each device. -/
structure Args (F : FTy → Type) where
  x : Dev nD → Vec F S64x1024 .f32
  win : Fin 3 → Dev nD → Vec F S1024x2048 .f32
  wout : Fin 3 → Dev nD → Vec F S2048x1024 .f32

/-- What a layer's devices send from their hidden activations `h`: the product's chunk, then the first sum. -/
def layerSent (h : Dev nD → HV F) (w : Dev nD → Vec F S2048x1024 .f32) (st : Fin 2) (ch : Fin 4) (c : Dev nD) : CV F :=
  if st = 0 then dotC (h c) (View.ld (w c) (colR ch))
  else addf (dotC (h c) (View.ld (w c) (colR ch))) (dotC (h (peer 0 c)) (View.ld (w (peer 0 c)) (colR ch)))

variable (A : Args F)

def hid0 (c : Dev nD) : HV F := reluV (dotX (View.ld (A.x c) xR) (View.ld (A.win 0 c) winR))
def sent0 : Fin 2 → Fin 4 → Dev nD → CV F := layerSent (hid0 A) (A.wout 0)
def hid1 (c : Dev nD) : HV F := hid (fun _ => sent0 A) 0 c (A.win 1 c)
def sent1 : Fin 2 → Fin 4 → Dev nD → CV F := layerSent (hid1 A) (A.wout 1)
def hid2 (c : Dev nD) : HV F := hid (fun _ => sent1 A) 1 c (A.win 2 c)
def sent2 : Fin 2 → Fin 4 → Dev nD → CV F := layerSent (hid2 A) (A.wout 2)

def hids : Fin 3 → Dev nD → HV F
  | 0 => hid0 A | 1 => hid1 A | 2 => hid2 A
def sent : Sent F
  | 0 => sent0 A | 1 => sent1 A | 2 => sent2 A

theorem sent_zero (l : Fin 3) (ch : Fin 4) (c : Dev nD) : sent A l 0 ch c = dotC (hids A l c) (View.ld (A.wout l c) (colR ch)) := by
  match l with
  | 0 => rfl
  | 1 => rfl
  | 2 => rfl
theorem sent_one (l : Fin 3) (ch : Fin 4) (c : Dev nD) : sent A l 1 ch c = addf (sent A l 0 ch c) (sent A l 0 ch (peer 0 c)) := by
  match l with
  | 0 => rfl
  | 1 => rfl
  | 2 => rfl
theorem hids_one (c : Dev nD) : hid (sent A) 0 c (A.win 1 c) = hids A 1 c := rfl
theorem hids_two (c : Dev nD) : hid (sent A) 1 c (A.win 2 c) = hids A 2 c := rfl

/-! ## The body -/

variable (K : Dev nD × CK → ℕ)

/-- A layer's tokens and credits on a device; its semaphores afterwards. -/
def res0 (c : Dev nD) (l : Fin 3) : sProp 𝕄 := iprop(B0 c l ∗ (four fun ch => R0 c l 0 ch) ∗ (four fun ch => R0 c l 1 ch))
def res2 (c : Dev nD) (l : Fin 3) : sProp 𝕄 := iprop((four fun ch => R2 c l 0 ch) ∗ (four fun ch => R2 c l 1 ch))
/-- A device's slots. -/
def slots (c : Dev nD) : sProp 𝕄 :=
  iprop((four fun ch => sAny c 0 ch) ∗ (four fun ch => sAny c 1 ch) ∗ (four fun ch => rAny c 0 ch) ∗ (four fun ch => rAny c 1 ch))
/-- The staged arguments. -/
def staged (c : Dev nD) : sProp 𝕄 :=
  iprop(owns (c : Thread nD τ) xM fullShare (A.x c)
    ∗ (owns (c : Thread nD τ) (winM 0) fullShare (A.win 0 c) ∗ owns (c : Thread nD τ) (winM 1) fullShare (A.win 1 c) ∗ owns (c : Thread nD τ) (winM 2) fullShare (A.win 2 c))
    ∗ owns (c : Thread nD τ) (woutM 0) fullShare (A.wout 0 c) ∗ owns (c : Thread nD τ) (woutM 1) fullShare (A.wout 1 c) ∗ owns (c : Thread nD τ) (woutM 2) fullShare (A.wout 2 c))

theorem above_layer2 : Above 8 [] := Above.nil _
theorem above_dues (n : ℕ) (l : Fin 3) (ds : List Due) (hn : n < 3 * l.val + 1) (h : Above n ds) : Above n (layerDues l ds) := by
  have hb (b : Fin 2) : n < (Due.bar l b).lvl := hn
  have hc (st : Fin 2) (ch : Fin 4) : n < (Due.cpy l st ch).lvl := by show n < 3 * l.val + 2 + st.val; omega
  exact ((((((((((h.cons (hc 1 3)).cons (hc 1 2)).cons (hc 1 1)).cons (hc 1 0)).cons (hc 0 3)).cons (hc 0 2)).cons (hc 0 1)).cons (hc 0 0)).cons (hb 1)).cons (hb 0))
theorem above_copies (l : Fin 3) (ds : List Due) (h : Above (3 * l.val + 1) ds) :
    Above (3 * l.val + 1) (.cpy l 0 0 :: .cpy l 0 1 :: .cpy l 0 2 :: .cpy l 0 3 :: .cpy l 1 0 :: .cpy l 1 1 :: .cpy l 1 2 :: .cpy l 1 3 :: ds) := by
  have hc (st : Fin 2) (ch : Fin 4) : 3 * l.val + 1 < (Due.cpy l st ch).lvl := by show _ < 3 * l.val + 2 + st.val; omega
  exact ((((((((h.cons (hc 1 3)).cons (hc 1 2)).cons (hc 1 1)).cons (hc 1 0)).cons (hc 0 3)).cons (hc 0 2)).cons (hc 0 1)).cons (hc 0 0))

theorem wp_body (c : Dev nD) (Q : PUnit → sProp 𝕄) :
    iprop((records (sent A) K ∗ levAts L lv ∗ staged A c ∗ outPts (sent A) c 0 ∗ (res0 c 0 ∗ res0 c 1 ∗ res0 c 2) ∗ atPos ER (barCell c) 0 ∅ 0
          ∗ slots c ∗ owe c dues)
        ∗ ((staged A c ∗ outPts (sent A) c 4 ∗ (res2 c 0 ∗ res2 c 1 ∗ res2 c 2) ∗ semVal (barCell c) 0 ∗ slots c ∗ owe c []) -∗ Q ⟨⟩))
      ⊢ wp frame (wpE (defs₀ (F := F)) 𝒱₀ (c : Thread nD τ) none) Set.univ (body (partners c)) Q := by
  unfold body staged res0 slots dues
  have a2 : Above (3 * (2 : Fin 3).val + 3) [] := Above.nil _
  have a1 : Above (3 * (1 : Fin 3).val + 3) (layerDues 2 []) := above_dues _ 2 _ (by decide) (Above.nil _)
  have a0 : Above (3 * (0 : Fin 3).val + 3) (layerDues 1 (layerDues 2 [])) := above_dues _ 1 _ (by decide) (a1.mono (by decide))
  iintro ⟨⟨#HR, #Hlev, ⟨Hx, ⟨Hi0, Hi1, Hi2⟩, Ho0, Ho1, Ho2⟩, Hout, ⟨⟨HB0, HS0, HT0⟩, ⟨HB1, HS1, HT1⟩, HB2, HS2, HT2⟩, HaB, ⟨Hs0, Hs1, Hr0, Hr1⟩, HO⟩, HQ⟩
  rw [wp_bind]
  iapply (wp_handshake (sent A) K c 0 _ (above_copies 0 _ (a0.mono (by decide))))
  isplitl [HB0 HaB Hr0 Hr1 HO]
  · isplitr; · iexact HR
    isplitr; · iexact Hlev
    isplitl [HB0]; · iexact HB0
    isplitl [HaB]; · iexact HaB
    isplitr; · iapply (reached_at (sent A) K (peer 0 c, none)); iexact HR
    isplitr; · iapply (reached_at (sent A) K (peer 1 c, none)); iexact HR
    isplitl [Hr0]; · iexact Hr0
    isplitl [Hr1]; · iexact Hr1
    iexact HO
  iintro ⟨HaB, #Hb0, Hp0, Hp1, HO⟩
  simp only [Prog.lift, Prog.bind_op, Prog.bind_ret]
  iapply (wp_load_owns c (A.x c)) $$ Hx
  iintro Hx
  iapply (wp_load_owns c (A.win 0 c)) $$ Hi0
  iintro Hi0
  rw [wp_bind]
  iapply (wp_layerA (sent A) K c 0 ((partners c).cpy 0 0) (fun _ => rfl) (hids A 0 c) (A.wout 0 c) (fun ch => sent_zero A 0 ch c) _)
  isplitl [Ho0 HS0 Hs0 Hp0 HO]
  · isplitr; · iexact HR
    isplitr; · iexact Hb0
    isplitl [Ho0]; · iexact Ho0
    isplitl [HS0]; · iexact HS0
    isplitl [Hs0]; · iexact Hs0
    isplitl [Hp0]; · iexact Hp0
    iexact HO
  iintro ⟨Ho0, HS0, HO⟩
  rw [wp_bind]
  iapply (wp_layerB (sent A) K c 0 ((partners c).cpy 0 1) (fun _ => rfl) (fun ch => sent_one A 0 ch c) _ a0)
  isplitl [HS0 HT0 Hs1 Hp1 HO]
  · isplitr; · iexact HR
    isplitr; · iexact Hlev
    isplitr; · iexact Hb0
    isplitl [HS0]; · iexact HS0
    isplitl [HT0]; · iexact HT0
    isplitl [Hs1]; · iexact Hs1
    isplitl [Hp1]; · iexact Hp1
    iexact HO
  iintro ⟨#Hq0, HS0, Hs0, Hr0, HT0, HO⟩
  rw [wp_bind]
  iapply (wp_layerC (sent A) K c 0 1 (A.win 1 c) _ a0)
  isplitl [Hi1 HT0 HO]
  · isplitr; · iexact HR
    isplitr; · iexact Hlev
    isplitl [Hi1]; · iexact Hi1
    isplitl [HT0]; · iexact HT0
    iexact HO
  iintro ⟨#Hz0, Hi1, HT0, Hs1, Hr1, HO⟩
  rw [hids_one]
  rw [wp_bind]
  iapply (wp_handshake (sent A) K c 1 _ (above_copies 1 _ (a1.mono (by decide))))
  isplitl [HB1 HaB Hr0 Hr1 HO]
  · isplitr; · iexact HR
    isplitr; · iexact Hlev
    isplitl [HB1]; · iexact HB1
    isplitl [HaB]; · iexact HaB
    isplitr; · iexact Hq0
    isplitr; · iexact Hz0
    isplitl [Hr0]; · iexact Hr0
    isplitl [Hr1]; · iexact Hr1
    iexact HO
  iintro ⟨HaB, #Hb1, Hp0, Hp1, HO⟩
  rw [wp_bind]
  iapply (wp_layerA (sent A) K c 1 ((partners c).cpy 1 0) (fun _ => rfl) (hids A 1 c) (A.wout 1 c) (fun ch => sent_zero A 1 ch c) _)
  isplitl [Ho1 HS1 Hs0 Hp0 HO]
  · isplitr; · iexact HR
    isplitr; · iexact Hb1
    isplitl [Ho1]; · iexact Ho1
    isplitl [HS1]; · iexact HS1
    isplitl [Hs0]; · iexact Hs0
    isplitl [Hp0]; · iexact Hp0
    iexact HO
  iintro ⟨Ho1, HS1, HO⟩
  rw [wp_bind]
  iapply (wp_layerB (sent A) K c 1 ((partners c).cpy 1 1) (fun _ => rfl) (fun ch => sent_one A 1 ch c) _ a1)
  isplitl [HS1 HT1 Hs1 Hp1 HO]
  · isplitr; · iexact HR
    isplitr; · iexact Hlev
    isplitr; · iexact Hb1
    isplitl [HS1]; · iexact HS1
    isplitl [HT1]; · iexact HT1
    isplitl [Hs1]; · iexact Hs1
    isplitl [Hp1]; · iexact Hp1
    iexact HO
  iintro ⟨#Hq1, HS1, Hs0, Hr0, HT1, HO⟩
  rw [wp_bind]
  iapply (wp_layerC (sent A) K c 1 2 (A.win 2 c) _ a1)
  isplitl [Hi2 HT1 HO]
  · isplitr; · iexact HR
    isplitr; · iexact Hlev
    isplitl [Hi2]; · iexact Hi2
    isplitl [HT1]; · iexact HT1
    iexact HO
  iintro ⟨#Hz1, Hi2, HT1, Hs1, Hr1, HO⟩
  rw [hids_two]
  rw [wp_bind]
  iapply (wp_handshake (sent A) K c 2 _ (above_copies 2 _ (a2.mono (by decide))))
  isplitl [HB2 HaB Hr0 Hr1 HO]
  · isplitr; · iexact HR
    isplitr; · iexact Hlev
    isplitl [HB2]; · iexact HB2
    isplitl [HaB]; · iexact HaB
    isplitr; · iexact Hq1
    isplitr; · iexact Hz1
    isplitl [Hr0]; · iexact Hr0
    isplitl [Hr1]; · iexact Hr1
    iexact HO
  iintro ⟨HaB, #Hb2, Hp0, Hp1, HO⟩
  rw [wp_bind]
  iapply (wp_layerA (sent A) K c 2 ((partners c).cpy 2 0) (fun _ => rfl) (hids A 2 c) (A.wout 2 c) (fun ch => sent_zero A 2 ch c) _)
  isplitl [Ho2 HS2 Hs0 Hp0 HO]
  · isplitr; · iexact HR
    isplitr; · iexact Hb2
    isplitl [Ho2]; · iexact Ho2
    isplitl [HS2]; · iexact HS2
    isplitl [Hs0]; · iexact Hs0
    isplitl [Hp0]; · iexact Hp0
    iexact HO
  iintro ⟨Ho2, HS2, HO⟩
  rw [wp_bind]
  iapply (wp_layerB (sent A) K c 2 ((partners c).cpy 2 1) (fun _ => rfl) (fun ch => sent_one A 2 ch c) _ a2)
  isplitl [HS2 HT2 Hs1 Hp1 HO]
  · isplitr; · iexact HR
    isplitr; · iexact Hlev
    isplitr; · iexact Hb2
    isplitl [HS2]; · iexact HS2
    isplitl [HT2]; · iexact HT2
    isplitl [Hs1]; · iexact Hs1
    isplitl [Hp1]; · iexact Hp1
    iexact HO
  iintro ⟨#Hq2, HS2, Hs0, Hr0, HT2, HO⟩
  imod (Rounds.cell_close ER (rd (sent A)) (Set.mem_univ (K (c, none))) (fun h => h) (R := (2 : Fin 3).val + 1) (duties_bar_later (sent A) c)) $$ [HaB] with HzB
  · isplitr; · iapply (inv_at (sent A) K (c, none)); iexact HR
    iexact HaB
  iapply (wp_layerD (sent A) K c)
  isplitl [HT2 Hout HO]
  · isplitr; · iexact HR
    isplitr; · iexact Hlev
    isplitl [HT2]; · iexact HT2
    isplitl [Hout]; · iexact Hout
    iexact HO
  iintro ⟨HT2, Hs1, Hr1, Hout, HO⟩
  iapply HQ
  unfold res2
  isplitl [Hx Hi0 Hi1 Hi2 Ho0 Ho1 Ho2]
  · isplitl [Hx]; · iexact Hx
    isplitl [Hi0 Hi1 Hi2]
    · isplitl [Hi0]; · iexact Hi0
      isplitl [Hi1] <;> iassumption
    isplitl [Ho0]; · iexact Ho0
    isplitl [Ho1] <;> iassumption
  isplitl [Hout]; · iexact Hout
  isplitl [HS0 HT0 HS1 HT1 HS2 HT2]
  · isplitl [HS0 HT0]
    · isplitl [HS0] <;> iassumption
    isplitl [HS1 HT1]
    · isplitl [HS1] <;> iassumption
    isplitl [HS2] <;> iassumption
  isplitl [HzB]; · iexact HzB
  isplitl [Hs0 Hs1 Hr0 Hr1]
  · isplitl [Hs0]; · iexact Hs0
    isplitl [Hs1]; · iexact Hs1
    isplitl [Hr0] <;> iassumption
  iexact HO

end Cert.KernelIdealProof

end
-- ==== Proof.KernelIdealDeal.lean ====
/-
# What the launch deals

The slots of the two scratch buffers, the credits matching what the devices owe, and the duty tokens, dealt to the
devices that pay them.
-/
module

public import proofs.«01_k».proof.Proof.KernelIdealBody
public import proofs.«01_k».proof.Proof.Gen.KernelIdeal.Launch
public import Idealize.ShloMosaic.Lib.Ring

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Enumerations -/

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_fin4 (Φ : Fin 4 → sProp 𝕄) : bigSep Finset.univ Φ = four Φ :=
  bigSep_univ_eq_bigSepL [0, 1, 2, 3] (by decide) (by decide) Φ
omit [FloatOps F] in
theorem bigSep_bool (Φ : Bool → sProp 𝕄) : bigSep Finset.univ Φ = iprop(Φ false ∗ Φ true) :=
  bigSep_univ_eq_bigSepL [false, true] (by decide) (by decide) Φ

/-- The copies by layer, stage and chunk. -/
def sE : Fin 3 × Fin 2 × Fin 4 ≃ Fin 24 where
  toFun p := sIx p.1 p.2.1 p.2.2
  invFun s := (layerOf s, stageOf s, chunkOf s)
  left_inv p := by
    obtain ⟨l, st, ch⟩ := p
    show (layerOf (sIx l st ch), stageOf (sIx l st ch), chunkOf (sIx l st ch)) = _
    rw [layerOf_sIx, stageOf_sIx, chunkOf_sIx]
  right_inv := sIx_of

/-- A layer's copies. -/
abbrev row (Φ : Fin 24 → sProp 𝕄) (l : Fin 3) : sProp 𝕄 := iprop((four fun ch => Φ (sIx l 0 ch)) ∗ four fun ch => Φ (sIx l 1 ch))

omit [FloatOps F] in
theorem bigSep_fin24 (Φ : Fin 24 → sProp 𝕄) : bigSep Finset.univ Φ = iprop(row Φ 0 ∗ row Φ 1 ∗ row Φ 2) := by
  rw [bigSep_univ_equiv sE Φ, bigSep_univ_prod, bigSep_fin3]
  simp only [bigSep_univ_prod, bigSep_univ_two, bigSep_fin4]
  rfl

omit [FloatOps F] in
/-- A device's cells: its barrier, its send cells, its receive cells. -/
theorem bigSep_CK (Φ : CK → sProp 𝕄) :
    bigSep Finset.univ Φ = iprop(Φ none ∗ (bigSep Finset.univ fun s => Φ (some (false, s))) ∗ bigSep Finset.univ fun s => Φ (some (true, s))) := by
  rw [bigSep_univ_equiv (Equiv.optionEquivSumPUnit.{0} (Bool × Fin 24)).symm Φ, bigSep_univ_sum, bigSep_univ_of_subsingleton PUnit.unit, bigSep_univ_prod, bigSep_bool]
  exact Std.Commutative.comm _ _

/-! ## The slots -/

theorem slot_mem (st : Fin 2) (ch : Fin 4) (i : S2x4x64x256.Idx) :
    i ∈ (slotR st ch).set ↔ (i (0 : Fin 4)).val = st.val ∧ (i (1 : Fin 4)).val = ch.val := by
  rw [Rect.mem_set_unit]
  constructor
  · intro h
    have h0 : st.val ≤ (i (0 : Fin 4)).val ∧ (i (0 : Fin 4)).val < st.val + 1 := h (0 : Fin 4)
    have h1 : ch.val ≤ (i (1 : Fin 4)).val ∧ (i (1 : Fin 4)).val < ch.val + 1 := h (1 : Fin 4)
    omega
  · rintro ⟨h0, h1⟩ a
    match a with
    | ⟨0, _⟩ => exact (show st.val ≤ (i (0 : Fin 4)).val ∧ (i (0 : Fin 4)).val < st.val + 1 by omega)
    | ⟨1, _⟩ => exact (show ch.val ≤ (i (1 : Fin 4)).val ∧ (i (1 : Fin 4)).val < ch.val + 1 by omega)
    | ⟨2, _⟩ => exact ⟨Nat.zero_le _, by show _ < 0 + 64; rw [Nat.zero_add]; exact (i (2 : Fin 4)).isLt⟩
    | ⟨3, _⟩ => exact ⟨Nat.zero_le _, by show _ < 0 + 256; rw [Nat.zero_add]; exact (i (3 : Fin 4)).isLt⟩

abbrev slotI (b : Fin 2 × Fin 4) : Finset S2x4x64x256.Idx := (slotR b.1 b.2).set

theorem slotI_disjoint (b b' : Fin 2 × Fin 4) (h : b ≠ b') : Disjoint (slotI b) (slotI b') := by
  rw [Finset.disjoint_left]
  intro i hi hi'
  obtain ⟨h0, h1⟩ := (slot_mem _ _ i).mp hi
  obtain ⟨h0', h1'⟩ := (slot_mem _ _ i).mp hi'
  exact h (Prod.ext (Fin.ext (h0.symm.trans h0')) (Fin.ext (h1.symm.trans h1')))
theorem slotI_cover : Finset.univ.biUnion slotI = Finset.univ := by
  ext i
  simp only [Finset.mem_biUnion, Finset.mem_univ, true_and, iff_true]
  exact ⟨(⟨(i (0 : Fin 4)).val, (i (0 : Fin 4)).isLt⟩, ⟨(i (1 : Fin 4)).val, (i (1 : Fin 4)).isLt⟩), (slot_mem _ _ i).mpr ⟨rfl, rfl⟩⟩

theorem sslot_set_eq (st : Fin 2) (ch : Fin 4) : (sslot st ch).view.set = (slotR st ch).set :=
  (sslot_set st ch).trans (View.set_slice_whole _ _)
theorem rslot_set_eq (st : Fin 2) (ch : Fin 4) : (rslot st ch).view.set = (slotR st ch).set :=
  (rslot_set st ch).trans (View.set_slice_whole _ _)

omit [FloatOps F] in
theorem blocks_fours (Φ : Fin 2 × Fin 4 → sProp 𝕄) :
    bigSep Finset.univ Φ = iprop((four fun ch => Φ (0, ch)) ∗ four fun ch => Φ (1, ch)) := by
  rw [bigSep_univ_prod, bigSep_univ_two, bigSep_fin4, bigSep_fin4]

/-- Some contents of a scratch buffer. -/
def noneYet : Vec F S2x4x64x256 .f32 := constant S2x4x64x256 .f32 0x00000000#32

theorem sslots_any (c : Dev nD) (f : Buf (Elt F) ((c : Thread nD τ).loc cc0_scratch0)) :
    (bigSep Finset.univ fun b : Fin 2 × Fin 4 => (((c : Thread nD τ).loc cc0_scratch0) ↦[slotI b]{fullShare} f : sProp 𝕄))
      ⊢ bigSep Finset.univ fun b : Fin 2 × Fin 4 => (sAny c b.1 b.2 : sProp 𝕄) := by
  refine bigSep_mono fun b _ => ?_
  unfold sAny; rw [sslot_set_eq]
  exact exists_intro (Φ := fun f => (((c : Thread nD τ).loc cc0_scratch0) ↦[slotI b]{fullShare} f : sProp 𝕄)) f
theorem send_split (c : Dev nD) :
    iprop(∃ f : Buf (Elt F) ((c : Thread nD τ).loc cc0_scratch0), ((c : Thread nD τ).loc cc0_scratch0) ↦{fullShare} f)
      ⊢ (iprop((four fun ch => sAny c 0 ch) ∗ four fun ch => sAny c 1 ch) : sProp 𝕄) := by
  rw [← blocks_fours (fun b : Fin 2 × Fin 4 => (sAny c b.1 b.2 : sProp 𝕄))]
  iintro ⟨%f, H⟩
  ihave H := (Entails.of_eq (Ring.pointsTo_blocks (ℓ := (c : Thread nD τ).loc cc0_scratch0) slotI slotI_disjoint slotI_cover f)) $$ H
  ihave H := (sslots_any c f) $$ H
  iexact H
theorem send_join (c : Dev nD) :
    (iprop((four fun ch => sAny c 0 ch) ∗ four fun ch => sAny c 1 ch) : sProp 𝕄)
      ⊢ iprop(∃ f : Buf (Elt F) ((c : Thread nD τ).loc cc0_scratch0), ((c : Thread nD τ).loc cc0_scratch0) ↦{fullShare} f) := by
  rw [← blocks_fours (fun b : Fin 2 × Fin 4 => (sAny c b.1 b.2 : sProp 𝕄))]
  exact (show _ ⊢ (bigSep Finset.univ fun b : Fin 2 × Fin 4 => iprop(∃ f, ((c : Thread nD τ).loc cc0_scratch0) ↦[slotI b]{fullShare} f) : sProp 𝕄) from
      bigSep_mono fun b _ => by unfold sAny; rw [sslot_set_eq]; exact fun _ h => h).trans
    (Ring.pointsTo_blocks_join_exists (ℓ := (c : Thread nD τ).loc cc0_scratch0) slotI slotI_disjoint slotI_cover (noneYet (F := F)))

theorem rslots_any (c : Dev nD) (f : Buf (Elt F) ((c : Thread nD τ).loc cc0_scratch1)) :
    (bigSep Finset.univ fun b : Fin 2 × Fin 4 => (((c : Thread nD τ).loc cc0_scratch1) ↦[slotI b]{fullShare} f : sProp 𝕄))
      ⊢ bigSep Finset.univ fun b : Fin 2 × Fin 4 => (rAny c b.1 b.2 : sProp 𝕄) := by
  refine bigSep_mono fun b _ => ?_
  unfold rAny; rw [rslot_set_eq]
  exact exists_intro (Φ := fun f => (((c : Thread nD τ).loc cc0_scratch1) ↦[slotI b]{fullShare} f : sProp 𝕄)) f
theorem recv_split (c : Dev nD) :
    iprop(∃ f : Buf (Elt F) ((c : Thread nD τ).loc cc0_scratch1), ((c : Thread nD τ).loc cc0_scratch1) ↦{fullShare} f)
      ⊢ (iprop((four fun ch => rAny c 0 ch) ∗ four fun ch => rAny c 1 ch) : sProp 𝕄) := by
  rw [← blocks_fours (fun b : Fin 2 × Fin 4 => (rAny c b.1 b.2 : sProp 𝕄))]
  iintro ⟨%f, H⟩
  ihave H := (Entails.of_eq (Ring.pointsTo_blocks (ℓ := (c : Thread nD τ).loc cc0_scratch1) slotI slotI_disjoint slotI_cover f)) $$ H
  ihave H := (rslots_any c f) $$ H
  iexact H
theorem recv_join (c : Dev nD) :
    (iprop((four fun ch => rAny c 0 ch) ∗ four fun ch => rAny c 1 ch) : sProp 𝕄)
      ⊢ iprop(∃ f : Buf (Elt F) ((c : Thread nD τ).loc cc0_scratch1), ((c : Thread nD τ).loc cc0_scratch1) ↦{fullShare} f) := by
  rw [← blocks_fours (fun b : Fin 2 × Fin 4 => (rAny c b.1 b.2 : sProp 𝕄))]
  exact (show _ ⊢ (bigSep Finset.univ fun b : Fin 2 × Fin 4 => iprop(∃ f, ((c : Thread nD τ).loc cc0_scratch1) ↦[slotI b]{fullShare} f) : sProp 𝕄) from
      bigSep_mono fun b _ => by unfold rAny; rw [rslot_set_eq]; exact fun _ h => h).trans
    (Ring.pointsTo_blocks_join_exists (ℓ := (c : Thread nD τ).loc cc0_scratch1) slotI slotI_disjoint slotI_cover (noneYet (F := F)))

theorem slots_intro (c : Dev nD) : (Pipeline.scopedRest cfg0.spec c : sProp 𝕄) ⊢ slots c := by
  rw [scopedRest0_eq]
  unfold slots
  iintro ⟨H0, H1⟩
  ihave H0 := (send_split (F := F) c) $$ H0
  ihave H1 := (recv_split (F := F) c) $$ H1
  icases H0 with ⟨Ha, Hb⟩
  icases H1 with ⟨Hc, Hd⟩
  isplitl [Ha]; · iexact Ha
  isplitl [Hb]; · iexact Hb
  isplitl [Hc] <;> iassumption
theorem slots_exit (c : Dev nD) : slots c ⊢ (Pipeline.scopedRest cfg0.spec c : sProp 𝕄) := by
  rw [scopedRest0_eq]
  unfold slots
  iintro ⟨Ha, Hb, Hc, Hd⟩
  ihave H0 := (send_join (F := F) c) $$ [Ha Hb]
  · isplitl [Ha] <;> iassumption
  ihave H1 := (recv_join (F := F) c) $$ [Hc Hd]
  · isplitl [Hc] <;> iassumption
  isplitl [H0] <;> iassumption

/-! ## The credits -/

/-- The credit of each payment a device is to receive. -/
def credsOf (c : Dev nD) : List Due → sProp 𝕄
  | [] => iprop(emp)
  | d :: ds => iprop(credsOf c ds ∗ cred (tallyAt ((c : Thread nD τ), d.sem) d.ix d.amt))

omit [FloatOps F] in
theorem creds_of_launch (c : Dev nD) : ∀ ds : List Due, (Pipeline.launchCred (fun d => owed d ds) c : sProp 𝕄) ⊢ credsOf c ds
  | [] => by
    show (Pipeline.launchCred (fun _ => (0 : CellTallies nD τ sig ℕ)) c : sProp 𝕄) ⊢ iprop(emp)
    rw [Pipeline.launchCred_zero]
  | d :: ds => by
    show (Pipeline.launchCred (fun c' => owed c' ds + dueAt d c') c : sProp 𝕄) ⊢ iprop(credsOf c ds ∗ cred (tallyAt ((c : Thread nD τ), d.sem) d.ix d.amt))
    rw [Pipeline.launchCred_add]
    exact BI.sep_mono (creds_of_launch c ds)
      (Pipeline.launchCred_tallyAt d.sem (peer d.toward) (peer d.toward) (peer_peer _) (peer_peer _) d.ix d.amt c)

/-- A layer's credits. -/
def crd (c : Dev nD) (l : Fin 3) : sProp 𝕄 :=
  iprop(cred (tallyAt (barCell c) l.val 2) ∗ (four fun ch => cred (tallyAt (recvCell c (sIx l 0 ch)) l.val N))
    ∗ four fun ch => cred (tallyAt (recvCell c (sIx l 1 ch)) l.val N))

omit [FloatOps F] in
theorem credsOf_cons (c : Dev nD) (d : Due) (ds : List Due) :
    (credsOf c (d :: ds) : sProp 𝕄) = iprop(credsOf c ds ∗ cred (tallyAt ((c : Thread nD τ), d.sem) d.ix d.amt)) := rfl

omit [FloatOps F] in
theorem creds_layer (c : Dev nD) (l : Fin 3) (ds : List Due) : credsOf c (layerDues l ds) ⊢ (iprop(credsOf c ds ∗ crd c l) : sProp 𝕄) := by
  unfold layerDues crd
  simp only [credsOf_cons]
  iintro ⟨⟨⟨⟨⟨⟨⟨⟨⟨⟨H, H13⟩, H12⟩, H11⟩, H10⟩, H03⟩, H02⟩, H01⟩, H00⟩, Hb1⟩, Hb0⟩
  isplitl [H]; · iexact H
  isplitl [Hb1 Hb0]
  · iapply (Entails.of_eq (congrArg (fun t => (cred t : sProp 𝕄)) (tallyAt_add (barCell c) l.val 1 1)))
    iapply (cred_add (tallyAt (barCell c) l.val 1) (tallyAt (barCell c) l.val 1)).2
    isplitl [Hb0]; · iexact Hb0
    iexact Hb1
  isplitl [H00 H01 H02 H03]
  · isplitl [H00]; · iexact H00
    isplitl [H01]; · iexact H01
    isplitl [H02]; · iexact H02
    iexact H03
  isplitl [H10]; · iexact H10
  isplitl [H11]; · iexact H11
  isplitl [H12]; · iexact H12
  iexact H13

omit [FloatOps F] in
theorem creds (c : Dev nD) : (Pipeline.launchCred (fun d => owed d dues) c : sProp 𝕄) ⊢ iprop(crd c 0 ∗ crd c 1 ∗ crd c 2) := by
  refine (creds_of_launch c dues).trans ?_
  unfold dues
  iintro H
  ihave H := (creds_layer (F := F) c 0 _) $$ H
  icases H with ⟨H, H0⟩
  ihave H := (creds_layer (F := F) c 1 _) $$ H
  icases H with ⟨H, H1⟩
  ihave H := (creds_layer (F := F) c 2 _) $$ H
  icases H with ⟨-, H2⟩
  isplitl [H0]; · iexact H0
  isplitl [H1]; · iexact H1
  iexact H2

/-! ## The tokens -/

/-- A device's duty tokens by number: a barrier's two in each layer, and one per send and per receive cell. -/
abbrev TK : Type := (Bool × Fin 3) ⊕ (Bool × Fin 24)
abbrev tokOf (ct : Dev nD × TK) : GSem nD τ sig × ℕ × Bool := match ct.2 with
  | .inl (b, l) => (barCell ct.1, l.val, b)
  | .inr k => (kcell (ct.1, some k), 0, false)

/-- The tokens of a device's own cells. -/
def toks (c : Dev nD) : sProp 𝕄 := bigSep Finset.univ fun t : TK => dutyTok ER (tokOf (c, t)).1 (tokOf (c, t)).2.1 (tokOf (c, t)).2.2

/-- The tokens of the duties a device pays. -/
def payToks (c : Dev nD) : sProp 𝕄 :=
  iprop(((bigSep Finset.univ fun l : Fin 3 => dutyTok ER (barCell (peer 0 c)) l.val false) ∗ bigSep Finset.univ fun l : Fin 3 => dutyTok ER (barCell (peer 1 c)) l.val true)
    ∗ (bigSep Finset.univ fun s => dutyTok ER (sendCell c s) 0 false) ∗ bigSep Finset.univ fun s => dutyTok ER (recvCell (peer (stageOf s) c) s) 0 false)

def peerE (st : Fin 2) : Dev nD ≃ Dev nD := ⟨peer st, peer st, peer_peer st, peer_peer st⟩

omit [FloatOps F] in
theorem toks_eq (c : Dev nD) : (toks c : sProp 𝕄) =
    iprop(((bigSep Finset.univ fun l : Fin 3 => dutyTok ER (barCell c) l.val false) ∗ bigSep Finset.univ fun l : Fin 3 => dutyTok ER (barCell c) l.val true)
      ∗ (bigSep Finset.univ fun s => dutyTok ER (sendCell c s) 0 false) ∗ bigSep Finset.univ fun s => dutyTok ER (recvCell c s) 0 false) := by
  unfold toks
  rw [bigSep_univ_sum, bigSep_univ_prod, bigSep_univ_prod, bigSep_bool, bigSep_bool]
  rfl

omit [FloatOps F] in
/-- Tokens sent across: each device's to its partner. -/
theorem across (st : Fin 2) {I : Type} [DecidableEq I] [Fintype I] (Φ : Dev nD → I → sProp 𝕄) :
    (bigSep Finset.univ fun c : Dev nD => bigSep Finset.univ fun i : I => Φ c i) = bigSep Finset.univ fun c : Dev nD => bigSep Finset.univ fun i : I => Φ (peer st c) i :=
  bigSep_univ_equiv (peerE st) fun c : Dev nD => bigSep Finset.univ fun i : I => Φ c i

omit [FloatOps F] in
theorem across_recv :
    (bigSep Finset.univ fun c : Dev nD => bigSep Finset.univ fun s : Fin 24 => (dutyTok ER (recvCell c s) 0 false : sProp 𝕄))
      = bigSep Finset.univ fun c : Dev nD => bigSep Finset.univ fun s : Fin 24 => dutyTok ER (recvCell (peer (stageOf s) c) s) 0 false := by
  rw [bigSep_univ_comm (fun (c : Dev nD) (s : Fin 24) => (dutyTok ER (recvCell c s) 0 false : sProp 𝕄)),
    bigSep_univ_comm (fun (c : Dev nD) (s : Fin 24) => (dutyTok ER (recvCell (peer (stageOf s) c) s) 0 false : sProp 𝕄))]
  exact bigSep_congr fun s _ => bigSep_univ_equiv (peerE (stageOf s)) fun c : Dev nD => (dutyTok ER (recvCell c s) 0 false : sProp 𝕄)

omit [FloatOps F] in
theorem toks_across : (bigSep Finset.univ fun c : Dev nD => (toks c : sProp 𝕄)) = bigSep Finset.univ fun c : Dev nD => payToks c := by
  simp only [toks_eq]
  unfold payToks
  simp only [bigSep_sep']
  rw [across 0 (fun (c : Dev nD) (l : Fin 3) => (dutyTok ER (barCell c) l.val false : sProp 𝕄)),
    across 1 (fun (c : Dev nD) (l : Fin 3) => (dutyTok ER (barCell c) l.val true : sProp 𝕄)), across_recv]

/-! ## What each layer of a device is given -/

def R0n (c : Dev nD) (s : Fin 24) : sProp 𝕄 :=
  iprop(atPos ER (sendCell c s) 0 ∅ 0 ∗ atPos ER (recvCell c s) 0 ∅ 0
    ∗ dutyTok ER (sendCell c s) 0 false ∗ dutyTok ER (recvCell (peer (stageOf s) c) s) 0 false)
def B0n (c : Dev nD) (l : Fin 3) : sProp 𝕄 :=
  iprop(dutyTok ER (barCell (peer 0 c)) l.val false ∗ dutyTok ER (barCell (peer 1 c)) l.val true)
/-- A layer's positions and tokens. -/
def lin (c : Dev nD) (l : Fin 3) : sProp 𝕄 := iprop(B0n c l ∗ row (R0n c) l)

omit [FloatOps F] in
theorem lin_intro (c : Dev nD) :
    iprop((bigSep Finset.univ fun k : CK => atPos ER (kcell (c, k)) 0 ∅ 0) ∗ payToks c)
      ⊢ (iprop((lin c 0 ∗ lin c 1 ∗ lin c 2) ∗ atPos ER (barCell c) 0 ∅ 0) : sProp 𝕄) := by
  have h1 : (bigSep Finset.univ fun l => (B0n c l : sProp 𝕄))
      = iprop((bigSep Finset.univ fun l : Fin 3 => dutyTok ER (barCell (peer 0 c)) l.val false) ∗ bigSep Finset.univ fun l : Fin 3 => dutyTok ER (barCell (peer 1 c)) l.val true) := by
    unfold B0n; rw [bigSep_sep']
  have h2 : (bigSep Finset.univ fun s => (R0n c s : sProp 𝕄))
      = iprop((bigSep Finset.univ fun s => atPos ER (sendCell c s) 0 ∅ 0) ∗ (bigSep Finset.univ fun s => atPos ER (recvCell c s) 0 ∅ 0)
        ∗ (bigSep Finset.univ fun s => dutyTok ER (sendCell c s) 0 false) ∗ bigSep Finset.univ fun s => dutyTok ER (recvCell (peer (stageOf s) c) s) 0 false) := by
    unfold R0n; rw [bigSep_sep', bigSep_sep', bigSep_sep']
  rw [bigSep_CK]
  unfold payToks
  rw [← h1]
  iintro ⟨⟨Hb, HS, HV⟩, HB, HtS, HtV⟩
  ihave HR := (Entails.of_eq h2.symm) $$ [HS HV HtS HtV]
  · isplitl [HS]; · iexact HS
    isplitl [HV]; · iexact HV
    isplitl [HtS] <;> iassumption
  ihave HR := (Entails.of_eq (bigSep_fin24 (R0n (F := F) c))) $$ HR
  ihave HB := (Entails.of_eq (bigSep_fin3 (B0n (F := F) c))) $$ HB
  icases HR with ⟨HR0, HR1, HR2⟩
  icases HB with ⟨HB0, HB1, HB2⟩
  unfold lin
  isplitr [Hb]
  · isplitl [HR0 HB0]
    · isplitl [HB0] <;> iassumption
    isplitl [HR1 HB1]
    · isplitl [HB1] <;> iassumption
    isplitl [HB2] <;> iassumption
  iexact Hb

omit [FloatOps F] in
theorem R0_intro (c : Dev nD) (l : Fin 3) (st : Fin 2) (ch : Fin 4) :
    iprop(R0n c (sIx l st ch) ∗ cred (tallyAt (recvCell c (sIx l st ch)) l.val N)) ⊢ (R0 c l st ch : sProp 𝕄) := by
  unfold R0n R0
  rw [stageOf_sIx]
  iintro ⟨⟨H1, H2, H3, H4⟩, H5⟩
  isplitl [H1]; · iexact H1
  isplitl [H2]; · iexact H2
  isplitl [H3]; · iexact H3
  isplitl [H4] <;> iassumption

omit [FloatOps F] in
theorem four_zip (Φ Ψ Θ : Fin 4 → sProp 𝕄) (h : ∀ ch, iprop(Φ ch ∗ Ψ ch) ⊢ Θ ch) : iprop(four Φ ∗ four Ψ) ⊢ four Θ := by
  unfold four
  iintro ⟨⟨A0, A1, A2, A3⟩, B0, B1, B2, B3⟩
  isplitl [A0 B0]
  · iapply (h 0); isplitl [A0] <;> iassumption
  isplitl [A1 B1]
  · iapply (h 1); isplitl [A1] <;> iassumption
  isplitl [A2 B2]
  · iapply (h 2); isplitl [A2] <;> iassumption
  iapply (h 3); isplitl [A3] <;> iassumption

omit [FloatOps F] in
theorem res0_intro (c : Dev nD) (l : Fin 3) : iprop(lin c l ∗ crd c l) ⊢ (res0 c l : sProp 𝕄) := by
  unfold lin crd res0 B0n B0
  iintro ⟨⟨⟨H1, H2⟩, HR0, HR1⟩, HcB, Hc0, Hc1⟩
  isplitl [H1 H2 HcB]
  · isplitl [H1]; · iexact H1
    isplitl [H2] <;> iassumption
  isplitl [HR0 Hc0]
  · iapply (four_zip _ _ _ (R0_intro (F := F) c l 0))
    isplitl [HR0] <;> iassumption
  iapply (four_zip _ _ _ (R0_intro (F := F) c l 1))
  isplitl [HR1] <;> iassumption

/-! ## The counters handed back -/

def osem (k : Bool × Fin 24) : SemLoc sig := csem (some k)

omit [FloatOps F] in
theorem ownSems0_eq (c : Dev nD) : (Pipeline.ownSems0 (Ix := ℕ) (Name := ℕ) (U := UU) (Lvl := ℕ) (Val := Elt F) (τ := τ) osem c : sProp 𝕄)
    = iprop((bigSep Finset.univ fun s => semVal (sendCell c s) 0) ∗ bigSep Finset.univ fun s => semVal (recvCell c s) 0) := by
  unfold Pipeline.ownSems0
  rw [bigSep_univ_prod, bigSep_bool]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HS, HV⟩, HB⟩
  isplitl [HB]; · iexact HB
  isplitl [HS]; · iexact HS
  iexact HV

omit [FloatOps F] in
theorem ownSems0_intro (c : Dev nD) : iprop(res2 c 0 ∗ res2 c 1 ∗ res2 c 2)
    ⊢ (Pipeline.ownSems0 (Ix := ℕ) (Name := ℕ) (U := UU) (Lvl := ℕ) (Val := Elt F) (τ := τ) osem c : sProp 𝕄) := by
  rw [ownSems0_eq, ← bigSep_sep', bigSep_fin24]
  exact Entails.of_eq rfl

end Cert.KernelIdealProof

end
-- ==== Proof.KernelIdealRun.lean ====
/-
# The launch

The proof data of the one pallas_call, its body obligation, and the whole program's run: it ends with the arguments
unchanged, every counter at zero and the result at the last layer's sums.
-/
module

public import proofs.«01_k».proof.Proof.KernelIdealDeal
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

def s₀ : MemSt nD τ sig (Elt F) := ⟨m, fun _ => 0, ρ⟩

/-- The arguments as the windows stage them. -/
def args : Args F where
  x c := (win0_0.blk t0_0).view.read (Elt F) (m ((c : Thread nD τ).loc main_arg0))
  win
    | 0 => fun c => (win0_1.blk t0_0).view.read (Elt F) (m ((c : Thread nD τ).loc main_arg1))
    | 1 => fun c => (win0_3.blk t0_0).view.read (Elt F) (m ((c : Thread nD τ).loc main_arg2))
    | 2 => fun c => (win0_5.blk t0_0).view.read (Elt F) (m ((c : Thread nD τ).loc main_arg3))
  wout
    | 0 => fun c => (win0_2.blk t0_0).view.read (Elt F) (m ((c : Thread nD τ).loc main_arg4))
    | 1 => fun c => (win0_4.blk t0_0).view.read (Elt F) (m ((c : Thread nD τ).loc main_arg5))
    | 2 => fun c => (win0_6.blk t0_0).view.read (Elt F) (m ((c : Thread nD τ).loc main_arg6))

abbrev theSent : Sent F := sent (args m)

/-- What is computed into the result. -/
def outAt (c : Dev nD) : Vec F S64x1024 .f32 := resV (theSent m) 2 c

/-- The exchange's ghost state a device starts from. -/
def G' (c : Dev nD) : sProp 𝕄 :=
  iprop(∃ K, records (theSent m) K ∗ (lin c 0 ∗ lin c 1 ∗ lin c 2) ∗ atPos ER (barCell c) 0 ∅ 0)
def start (c : Dev nD) : sProp 𝕄 := iprop(G' m c ∗ (crd c 0 ∗ crd c 1 ∗ crd c 2) ∗ levAts L lv)
def Φ₀ (c : Dev nD) : sProp 𝕄 := iprop(start m c ∗ slots c)
def Φ₁ (c : Dev nD) : sProp 𝕄 := iprop((res2 c 0 ∗ res2 c 1 ∗ res2 c 2) ∗ semVal (barCell c) 0 ∗ slots c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (args m).x c
    | ⟨1, _⟩ => (args m).win 0 c
    | ⟨2, _⟩ => (args m).wout 0 c
    | ⟨3, _⟩ => (args m).win 1 c
    | ⟨4, _⟩ => (args m).wout 1 c
    | ⟨5, _⟩ => (args m).win 2 c
    | ⟨6, _⟩ => (args m).wout 2 c
    | ⟨7, _⟩ => outAt m c
  Φ t := match t with
    | ⟨0, _⟩ => Φ₀ m c
    | ⟨_ + 1, _⟩ => Φ₁ c
  q _ := fullShare
  owed t := match t with
    | ⟨0, _⟩ => owed c dues
    | ⟨_ + 1, _⟩ => 0

/-! ## The body -/

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The result's buffer, whatever it holds; holding the result. -/
def out0 (c : Dev nD) : sProp 𝕄 :=
  iprop(∃ d, owns (c : Thread nD τ) outM fullShare ((dats m ρ 0 c).before (7 : Fin 8) t0_0 d))
theorem out_intro (c : Dev nD) (X : Vec F S64x1024 .f32) :
    (owns (Ix := ℕ) (Name := ℕ) (U := UU) (Lvl := ℕ) (c : Thread nD τ) outM fullShare X : sProp 𝕄) ⊢ outPts (theSent m) c 0 := by
  unfold outPts
  rw [show (owns (Ix := ℕ) (Name := ℕ) (U := UU) (Lvl := ℕ) (c : Thread nD τ) outM fullShare X : sProp 𝕄) = _ from owns_whole_eq c cc0_stg7_0 X]
  iintro ⟨%f, -, H⟩
  iexists f
  isplitr
  · ipureintro; intro i hi; exact absurd hi (by omega)
  iexact H
theorem out_exit (c : Dev nD) :
    outPts (theSent m) c 4 ⊢ (owns (Ix := ℕ) (Name := ℕ) (U := UU) (Lvl := ℕ) (c : Thread nD τ) outM fullShare (outAt m c) : sProp 𝕄) := by
  unfold outPts
  rw [show (owns (Ix := ℕ) (Name := ℕ) (U := UU) (Lvl := ℕ) (c : Thread nD τ) outM fullShare (outAt m c) : sProp 𝕄) = _ from owns_whole_eq c cc0_stg7_0 (outAt m c)]
  iintro ⟨%f, %hf, H⟩
  iexists f
  isplitr
  · ipureintro; funext i; exact hf i (show (i (1 : Fin 2)).val < 1024 from (i (1 : Fin 2)).isLt)
  iexact H

set_option maxRecDepth 8000 in
def bodyPre (c : Dev nD) : sProp 𝕄 :=
  iprop(Φ₀ m c ∗ (dats m ρ 0 c).owesAt 0 t0_0.castSucc
    ∗ (∃ d, owns (c : Thread nD τ) xM fullShare ((dats m ρ 0 c).before (0 : Fin 8) t0_0 d))
    ∗ (∃ d, owns (c : Thread nD τ) (winM 0) fullShare ((dats m ρ 0 c).before (1 : Fin 8) t0_0 d))
    ∗ (∃ d, owns (c : Thread nD τ) (woutM 0) fullShare ((dats m ρ 0 c).before (2 : Fin 8) t0_0 d))
    ∗ (∃ d, owns (c : Thread nD τ) (winM 1) fullShare ((dats m ρ 0 c).before (3 : Fin 8) t0_0 d))
    ∗ (∃ d, owns (c : Thread nD τ) (woutM 1) fullShare ((dats m ρ 0 c).before (4 : Fin 8) t0_0 d))
    ∗ (∃ d, owns (c : Thread nD τ) (winM 2) fullShare ((dats m ρ 0 c).before (5 : Fin 8) t0_0 d))
    ∗ (∃ d, owns (c : Thread nD τ) (woutM 2) fullShare ((dats m ρ 0 c).before (6 : Fin 8) t0_0 d))
    ∗ out0 m ρ c)
def bodyPost (c : Dev nD) : sProp 𝕄 :=
  iprop(Φ₁ c ∗ (dats m ρ 0 c).owesAt 0 t0_0.succ
    ∗ owns (c : Thread nD τ) xM fullShare ((args m).x c)
    ∗ owns (c : Thread nD τ) (winM 0) fullShare ((args m).win 0 c)
    ∗ owns (c : Thread nD τ) (woutM 0) fullShare ((args m).wout 0 c)
    ∗ owns (c : Thread nD τ) (winM 1) fullShare ((args m).win 1 c)
    ∗ owns (c : Thread nD τ) (woutM 1) fullShare ((args m).wout 1 c)
    ∗ owns (c : Thread nD τ) (winM 2) fullShare ((args m).win 2 c)
    ∗ owns (c : Thread nD τ) (woutM 2) fullShare ((args m).wout 2 c)
    ∗ owns (c : Thread nD τ) outM fullShare (outAt m c))

theorem before_x (c : Dev nD) (d) : (dats m ρ 0 c).before (0 : Fin 8) t0_0 d = (args m).x c := by
  unfold Dat.before; rw [if_pos (fetch0_0 t0_0)]; rfl
theorem before_win0 (c : Dev nD) (d) : (dats m ρ 0 c).before (1 : Fin 8) t0_0 d = (args m).win 0 c := by
  unfold Dat.before; rw [if_pos (fetch0_1 t0_0)]; rfl
theorem before_wout0 (c : Dev nD) (d) : (dats m ρ 0 c).before (2 : Fin 8) t0_0 d = (args m).wout 0 c := by
  unfold Dat.before; rw [if_pos (fetch0_2 t0_0)]; rfl
theorem before_win1 (c : Dev nD) (d) : (dats m ρ 0 c).before (3 : Fin 8) t0_0 d = (args m).win 1 c := by
  unfold Dat.before; rw [if_pos (fetch0_3 t0_0)]; rfl
theorem before_wout1 (c : Dev nD) (d) : (dats m ρ 0 c).before (4 : Fin 8) t0_0 d = (args m).wout 1 c := by
  unfold Dat.before; rw [if_pos (fetch0_4 t0_0)]; rfl
theorem before_win2 (c : Dev nD) (d) : (dats m ρ 0 c).before (5 : Fin 8) t0_0 d = (args m).win 2 c := by
  unfold Dat.before; rw [if_pos (fetch0_5 t0_0)]; rfl
theorem before_wout2 (c : Dev nD) (d) : (dats m ρ 0 c).before (6 : Fin 8) t0_0 d = (args m).wout 2 c := by
  unfold Dat.before; rw [if_pos (fetch0_6 t0_0)]; rfl

theorem owe_intro (c : Dev nD) : (dats m ρ 0 c).owesAt 0 t0_0.castSucc ⊢ (owe c dues : sProp 𝕄) := by
  unfold Dat.owesAt Pipeline.owesWithin owe
  iintro ⟨%W, -, HO⟩
  iexists W; iexact HO
theorem owe_exit (c : Dev nD) : (owe c [] : sProp 𝕄) ⊢ (dats m ρ 0 c).owesAt 0 t0_0.succ := by
  unfold Dat.owesAt Pipeline.owesWithin owe
  iintro ⟨%W, HO⟩
  iexists W
  isplitr; · ipureintro; exact fun _ _ => Or.inl trivial
  iexact HO

theorem sound_body (c : Dev nD) :
    bodyPre m ρ c ⊢ wp frame (wpE (defs₀ (F := F)) 𝒱₀ (c : Thread nD τ) none) Set.univ
      (cc0_body (F := F) (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_stg5_0) (Memref.isWhole_whole _)
        (Memref.whole cc0_stg6_0) (Memref.isWhole_whole _) (Memref.whole cc0_stg7_0) (Memref.isWhole_whole _)
        (Memref.whole cc0_scratch0) (Memref.isWhole_whole _) (Memref.whole cc0_scratch1) (Memref.isWhole_whole _)
        cc0_scratch2 cc0_scratch3) (fun _ => bodyPost m ρ c) := by
  rw [body_eq]
  unfold bodyPre Φ₀ start G' out0
  iintro ⟨⟨⟨⟨%K, #HR, ⟨Hl0, Hl1, Hl2⟩, HaB⟩, ⟨Hc0, Hc1, Hc2⟩, #Hlev⟩, Hsl⟩, HO, ⟨%d0, Hx⟩, ⟨%d1, Hi0⟩, ⟨%d2, Ho0⟩, ⟨%d3, Hi1⟩, ⟨%d4, Ho1⟩, ⟨%d5, Hi2⟩, ⟨%d6, Ho2⟩, ⟨%d7, Hout⟩⟩
  rw [before_x m ρ c d0, before_win0 m ρ c d1, before_wout0 m ρ c d2, before_win1 m ρ c d3, before_wout1 m ρ c d4, before_win2 m ρ c d5, before_wout2 m ρ c d6]
  ihave HO := (owe_intro m ρ c) $$ HO
  ihave Hout := (out_intro m c _) $$ Hout
  ihave H0 := (res0_intro (F := F) c 0) $$ [Hl0 Hc0]
  · isplitl [Hl0] <;> iassumption
  ihave H1 := (res0_intro (F := F) c 1) $$ [Hl1 Hc1]
  · isplitl [Hl1] <;> iassumption
  ihave H2 := (res0_intro (F := F) c 2) $$ [Hl2 Hc2]
  · isplitl [Hl2] <;> iassumption
  simp only [wp_deviceId]
  rw [printed_eq]
  iapply (wp_body (args m) K c)
  unfold staged
  isplitr []
  · isplitr; · iexact HR
    isplitr; · iexact Hlev
    isplitl [Hx Hi0 Hi1 Hi2 Ho0 Ho1 Ho2]
    · isplitl [Hx]; · iexact Hx
      isplitl [Hi0 Hi1 Hi2]
      · isplitl [Hi0]; · iexact Hi0
        isplitl [Hi1]; · iexact Hi1
        iexact Hi2
      isplitl [Ho0]; · iexact Ho0
      isplitl [Ho1]; · iexact Ho1
      iexact Ho2
    isplitl [Hout]; · iexact Hout
    isplitl [H0 H1 H2]
    · isplitl [H0]; · iexact H0
      isplitl [H1]; · iexact H1
      iexact H2
    isplitl [HaB]; · iexact HaB
    isplitl [Hsl]; · iexact Hsl
    iexact HO
  iintro ⟨⟨Hx, ⟨Hi0, Hi1, Hi2⟩, Ho0, Ho1, Ho2⟩, Hout, H2, HzB, Hsl, HO⟩
  ihave HO := (owe_exit m ρ c) $$ HO
  ihave Hout := (out_exit m c) $$ Hout
  unfold bodyPost Φ₁
  isplitl [H2 HzB Hsl]
  · isplitl [H2]; · iexact H2
    isplitl [HzB] <;> iassumption
  isplitl [HO]; · iexact HO
  isplitl [Hx]; · iexact Hx
  isplitl [Hi0]; · iexact Hi0
  isplitl [Ho0]; · iexact Ho0
  isplitl [Hi1]; · iexact Hi1
  isplitl [Ho1]; · iexact Ho1
  isplitl [Hi2]; · iexact Hi2
  isplitl [Ho2]; · iexact Ho2
  iexact Hout

set_option maxRecDepth 8000 in
theorem body_obligation (c : Dev nD) : BodyObligation (dats (F := F) m ρ 0 c) (defs₀ (F := F)) 𝒱₀ 0 Set.univ := fun t => by
  rw [fin_N0 t, bigSep_W0, bigSep_W0]
  exact sound_body m ρ c

/-! ## The launch's set-up -/

theorem ownSemFacts : Pipeline.OwnSemFacts cfg0.spec osem := by decide +kernel

theorem share_eq (c : Dev nD) (w : Fin cfg0.W) : (dats m ρ 0 c).share w = fullShare := by unfold Dat.share; split <;> rfl

theorem csem_injective : Function.Injective csem := by decide +kernel

theorem kcell_injective : Function.Injective (kcell : Dev nD × CK → GSem nD τ sig) := by
  rintro ⟨c, k⟩ ⟨c', k'⟩ h
  have h1 : c = c' := congrArg (fun g : GSem nD τ sig => g.1.1) h
  have h2 : csem k = csem k' := congrArg Prod.snd h
  rw [h1, csem_injective h2]
def theCells : Finset (GSem nD τ sig) := Finset.univ.map ⟨kcell, kcell_injective⟩

theorem tokOf_injective : Function.Injective (tokOf : Dev nD × TK → GSem nD τ sig × ℕ × Bool) := by
  rintro ⟨c, t⟩ ⟨c', t'⟩ h
  have hk : ∀ k, csem (some k) ≠ csem none := fun k e => by cases csem_injective e
  rcases t with ⟨b, l⟩ | k <;> rcases t' with ⟨b', l'⟩ | k'
  · have h1 : c = c' := congrArg (fun g : GSem nD τ sig × ℕ × Bool => g.1.1.1) h
    have h2 : l = l' := Fin.ext (congrArg (fun g : GSem nD τ sig × ℕ × Bool => g.2.1) h)
    have h3 : b = b' := congrArg (fun g : GSem nD τ sig × ℕ × Bool => g.2.2) h
    rw [h1, h2, h3]
  · exact absurd (congrArg (fun g : GSem nD τ sig × ℕ × Bool => g.1.2) h).symm (hk k')
  · exact absurd (congrArg (fun g : GSem nD τ sig × ℕ × Bool => g.1.2) h) (hk k)
  · have h1 : (c, (some k : CK)) = (c', some k') := kcell_injective (congrArg (fun g : GSem nD τ sig × ℕ × Bool => g.1) h)
    have h2 : k = k' := Option.some.inj (congrArg Prod.snd h1)
    rw [show c = c' from congrArg Prod.fst h1, h2]
def theToks : Finset (GSem nD τ sig × ℕ × Bool) := Finset.univ.map ⟨tokOf, tokOf_injective⟩

def u₀ : UU := (initOf (Pipeline.cells cfgs cellOf_inj) (Pipeline.launchToks cfgs cellOf_inj), initOf theCells theToks)

def G (c : Dev nD) : sProp 𝕄 :=
  iprop((bigSep Finset.univ fun k : CK => roundState ER (rd (theSent m)) (kcell (c, k)) 0)
    ∗ (bigSep Finset.univ fun k : CK => iprop(atPos ER (kcell (c, k)) 0 ∅ 0 ∗ reached ER (kcell (c, k)) 0)) ∗ toks c)

theorem fund_all : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun k : CK => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks toks; rw [bigSep_map, bigSep_univ_prod]; rfl
  iintro HX
  imod (Rounds.fund ER (rd (theSent m)) theCells theToks) $$ HX with ⟨Hst, Hr, Hat, Htok⟩
  imodintro
  ihave Hst' := (Entails.of_eq (hX fun g => roundState ER (rd (theSent m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (rd (theSent m)) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (rd (theSent m)) (kcell (c, k)) 0)
      ⊢ (|={Set.univ}=> bigSep Finset.univ fun k => iprop(∃ κ : ℕ, cellInv ER (rd (theSent m)) κ (kcell (c, k))) : sProp 𝕄) from by
        rw [← bigSep_sep']
        exact (bigSep_mono fun k _ => (Rounds.body_intro ER (rd (theSent m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CK → ℕ) (c : Dev nD) :
    iprop(records (theSent m) K ∗ (bigSep Finset.univ fun k : CK => atPos ER (kcell (c, k)) 0 ∅ 0) ∗ payToks c) ⊢ (G' m c : sProp 𝕄) := by
  iintro ⟨#HR, Hl⟩
  ihave Hl := (lin_intro (F := F) c) $$ Hl
  unfold G'
  iexists K
  isplitr; · iexact HR
  iexact Hl

theorem regroup :
    (bigSep Finset.univ fun c : Dev nD => iprop((bigSep Finset.univ fun k : CK => iprop(∃ κ : ℕ, cellInv ER (rd (theSent m)) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (rd (theSent m)) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄)), toks_across]
  iintro ⟨HI, ⟨Hat, #HR⟩, Htok⟩
  ihave HK := (BI.bigSep_exists_pi Finset.univ (fun (ck : Dev nD × CK) (κ : ℕ) => (cellInv ER (rd (theSent m)) κ (kcell ck) : sProp 𝕄))) $$ HI
  icases HK with ⟨%K, #HI⟩
  iapply (bigSep_with_persistent (R := records (theSent m) K) fun c _ => ghost_intro m K c)
  isplitr
  · unfold records; isplitl; · iexact HI
    iexact HR
  · iapply (Entails.of_eq (bigSep_sep' Finset.univ (fun c : Dev nD => bigSep Finset.univ fun k : CK => (atPos ER (kcell (c, k)) 0 ∅ 0 : sProp 𝕄)) payToks).symm)
    isplitl [Hat]; · iexact Hat
    iexact Htok

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred (fun d => owed d dues) c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (slots_intro (F := F) c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, unscopedSems0_eq]
  unfold Φ₁
  iintro ⟨H2, HzB, Hr⟩
  isplitl [HzB]; · iexact HzB
  isplitl [H2]; · iapply (ownSems0_intro (F := F) c); iexact H2
  iapply (slots_exit (F := F) c); iexact Hr

theorem above_all : Above 0 dues :=
  above_dues _ 0 _ (by decide) (above_dues _ 1 _ (by decide) (above_dues _ 2 _ (by decide) (Above.nil _)))

theorem waits (c : Dev nD) : (levAts L lv : sProp 𝕄) ⊢ Pipeline.cellsWaits cfgs (dats m ρ) 0 0 c :=
  Pipeline.cellsWaits_intro cfgs (dats m ρ) 0 0 c fun w s t => by
    have hs : lv ((c : Thread nD τ), .dma ((cfg0.win w).sem s)) 0 = 0 := by revert w s c; decide +kernel
    rcases t with ⟨_ | _, ht⟩
    · exact mayWait (ds := dues) (mem_L c _ 0) (by rw [hs]; exact above_all)
    · exact mayWait (ds := []) (mem_L c _ 0) (Above.nil _)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owed d dues) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_0 (c : Dev nD) : finalA m ρ c (0 : Fin 8) = m ((c : Thread nD τ).loc main_arg0) := (dats (F := F) m ρ 0 c).arrAt_in (0 : Fin 8) rfl _
theorem finalA_1 (c : Dev nD) : finalA m ρ c (1 : Fin 8) = m ((c : Thread nD τ).loc main_arg1) := (dats (F := F) m ρ 0 c).arrAt_in (1 : Fin 8) rfl _
theorem finalA_2 (c : Dev nD) : finalA m ρ c (2 : Fin 8) = m ((c : Thread nD τ).loc main_arg4) := (dats (F := F) m ρ 0 c).arrAt_in (2 : Fin 8) rfl _
theorem finalA_3 (c : Dev nD) : finalA m ρ c (3 : Fin 8) = m ((c : Thread nD τ).loc main_arg2) := (dats (F := F) m ρ 0 c).arrAt_in (3 : Fin 8) rfl _
theorem finalA_4 (c : Dev nD) : finalA m ρ c (4 : Fin 8) = m ((c : Thread nD τ).loc main_arg5) := (dats (F := F) m ρ 0 c).arrAt_in (4 : Fin 8) rfl _
theorem finalA_5 (c : Dev nD) : finalA m ρ c (5 : Fin 8) = m ((c : Thread nD τ).loc main_arg3) := (dats (F := F) m ρ 0 c).arrAt_in (5 : Fin 8) rfl _
theorem finalA_6 (c : Dev nD) : finalA m ρ c (6 : Fin 8) = m ((c : Thread nD τ).loc main_arg6) := (dats (F := F) m ρ 0 c).arrAt_in (6 : Fin 8) rfl _

theorem out_cover (i : S64x1024.Idx) : ∃ t : Fin cfg0.N, (cfg0.win 7).flush t = true ∧ i ∈ ((cfg0.win 7).blk t).view.set := by
  refine ⟨t0_0, flush0_7 _, ?_⟩
  show i ∈ ((View.whole main_v1).slice (win0_7.rect t0_0)).set
  rw [View.set_slice_whole, Rect.mem_set_unit]
  intro a
  match a with
  | ⟨0, _⟩ => exact ⟨Nat.zero_le _, by show _ < 0 + 64; rw [Nat.zero_add]; exact (i (0 : Fin 2)).isLt⟩
  | ⟨1, _⟩ => exact ⟨Nat.zero_le _, by show _ < 0 + 1024; rw [Nat.zero_add]; exact (i (1 : Fin 2)).isLt⟩

/-- The windows stage whole arrays. -/
theorem args_x (c : Dev nD) : (args m).x c = m ((c : Thread nD τ).loc main_arg0) :=
  View.ld_unit_zero (S := S64x1024) (funext fun _ => Nat.zero_mul _) _ _
theorem args_win0 (c : Dev nD) : (args m).win 0 c = m ((c : Thread nD τ).loc main_arg1) :=
  View.ld_unit_zero (S := S1024x2048) (funext fun _ => Nat.zero_mul _) _ _
theorem args_win1 (c : Dev nD) : (args m).win 1 c = m ((c : Thread nD τ).loc main_arg2) :=
  View.ld_unit_zero (S := S1024x2048) (funext fun _ => Nat.zero_mul _) _ _
theorem args_win2 (c : Dev nD) : (args m).win 2 c = m ((c : Thread nD τ).loc main_arg3) :=
  View.ld_unit_zero (S := S1024x2048) (funext fun _ => Nat.zero_mul _) _ _
theorem args_wout0 (c : Dev nD) : (args m).wout 0 c = m ((c : Thread nD τ).loc main_arg4) :=
  View.ld_unit_zero (S := S2048x1024) (funext fun _ => Nat.zero_mul _) _ _
theorem args_wout1 (c : Dev nD) : (args m).wout 1 c = m ((c : Thread nD τ).loc main_arg5) :=
  View.ld_unit_zero (S := S2048x1024) (funext fun _ => Nat.zero_mul _) _ _
theorem args_wout2 (c : Dev nD) : (args m).wout 2 c = m ((c : Thread nD τ).loc main_arg6) :=
  View.ld_unit_zero (S := S2048x1024) (funext fun _ => Nat.zero_mul _) _ _

omit [FloatOps F] in
theorem out_read (X : S64x1024.Idx → Elt F .f32) : (win0_7.blk t0_0).view.read (Elt F) X = X :=
  View.ld_unit_zero (S := S64x1024) (funext fun _ => Nat.zero_mul _) _ _

/-- The result array ends at what was computed. -/
theorem finalA_7 (c : Dev nD) : finalA m ρ c (7 : Fin 8) = outAt m c :=
  (dats m ρ 0 c).arrAt_eq_of_cover (7 : Fin 8) (outAt m c) (fun t _ => by
    obtain rfl := fin_N0 t
    exact Eq.trans (funext fun _ => rfl) (out_read (outAt m c)).symm) out_cover

/-- Every run ends with the result computed, the arguments unchanged and every counter at zero. -/
theorem run_values : θ_run defs (onTc (τ := τ) (main (F := F))) (s₀ m ρ) (fun r => (∀ c : Dev nD,
    r.2.mem ((c : Thread nD τ).loc main_v1) = outAt m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6))
    ∧ r.2.sem = fun _ => 0) :=
  (θ_run defs _ _).mono (fun r h => ⟨fun c =>
    ⟨(h.1 c 7).trans (finalA_7 m ρ c), (h.1 c 0).trans (finalA_0 m ρ c), (h.1 c 1).trans (finalA_1 m ρ c), (h.1 c 3).trans (finalA_3 m ρ c),
      (h.1 c 5).trans (finalA_5 m ρ c), (h.1 c 2).trans (finalA_2 m ρ c), (h.1 c 4).trans (finalA_4 m ρ c), (h.1 c 6).trans (finalA_6 m ρ c)⟩, h.2⟩) (run_main m ρ)

end Cert.KernelIdealProof

end
-- ==== Proof.KernelIdealValue.lean ====
/-
# The value: the four devices together compute the whole network

At the ideal values. A device's hidden activations are its 2048 columns of the whole ones. The four summands of a
chunk of the result, added in the two stages of the exchange, are the four tiles of the sum over all 8192 hidden
columns, whichever device adds them. The next layer's product, taken chunk by chunk, is the sum over all 1024 columns.
-/
module

public import proofs.«01_k».proof.Proof.KernelIdealRun
public import Idealize.ShloMosaic.Lib.MatmulPlain
public import Idealize.ShloMosaic.Lib.StackMember
public import Idealize.ShloMosaic.Lib.Pointwise.Sums
public import Idealize.ShloMosaic.Lib.Layout
public import Idealize.ShloMosaic.Lib.ValueIdx

@[expose] public section

noncomputable section

namespace Cert.KernelIdealProof

open Cert.KernelIdeal Cert.KernelIdeal.Gen
open Idealize.ShloMosaic hiding ix2 eq_ix2
open Idealize.ShloMosaic.TcCoe
open Idealize.SL.Sem
open Idealize.ShloMosaic.ValueIdx

/-! ## The whole network, on one device -/

/-- The whole matrices of a layer. -/
abbrev WinW := FVec Ideal ⟨2, ![1024, 8192]⟩ .f32
abbrev WoutW := FVec Ideal ⟨2, ![8192, 1024]⟩ .f32
abbrev HidW := FVec Ideal ⟨2, ![64, 8192]⟩ .f32
abbrev XW := FVec Ideal S64x1024 .f32

def hidW (X : XW) (W : WinW) : HidW := maximumf (Host.dotGeneral (DotDims.plain 64 1024 8192) none X W) (fun _ => (0 : EReal))
def outW (H : HidW) (V : WoutW) : XW := Host.dotGeneral (DotDims.plain 64 8192 1024) none H V

/-- A device's hidden column among all of them; -/
def gcol (c : Dev nD) (k : Fin 2048) : Fin 8192 := ⟨c.val * 2048 + k.val, by have h : c.val < 4 := c.isLt; omega⟩
/-- a chunk's column among the 1024. -/
def hcol (ch : Fin 4) (j : Fin 256) : Fin 1024 := ⟨ch.val * 256 + j.val, by omega⟩

theorem hidW_apply (X : XW) (W : WinW) (i : Fin 64) (k : Fin 8192) :
    hidW X W (ix2 i k) = max (∑ j : Fin 1024, X (ix2 i j) * W (ix2 j k)) (0 : EReal) := by
  unfold hidW; rw [ValueIdx.maximumf_apply, StackMember.dotGeneral_plain_apply]
theorem outW_apply (H : HidW) (V : WoutW) (i : Fin 64) (j : Fin 1024) :
    outW H V (ix2 i j) = ∑ k : Fin 8192, H (ix2 i k) * V (ix2 k j) := StackMember.dotGeneral_plain_apply ..

/-! ## The kernel's products at an index -/

theorem zero_apply {s : Shape} (i : s.Idx) : (constant s .f32 0x00000000#32 : FVec Ideal s .f32) i = (0 : EReal) :=
  Ideal.ofBits_zero_f32

theorem dotX_apply (x : XW) (w : FVec Ideal S1024x2048 .f32) (i : Fin 64) (k : Fin 2048) :
    dotX x w (ix2 i k) = ∑ j : Fin 1024, x (ix2 i j) * w (ix2 j k) := by
  unfold dotX; rw [shapeCast_self, shapeCast_self]
  exact (Ideal.matmul_plain_apply _ _ _ _ i k).trans (by rw [zero_apply]; exact zero_add _)
theorem dotC_apply (h : HV Ideal) (w : FVec Ideal S2048x256 .f32) (i : Fin 64) (j : Fin 256) :
    dotC h w (ix2 i j) = ∑ k : Fin 2048, h (ix2 i k) * w (ix2 k j) := by
  unfold dotC; rw [shapeCast_self]
  exact (Ideal.matmul_plain_apply _ _ _ _ i j).trans (by rw [zero_apply]; exact zero_add _)
theorem dotR_apply (x : CV Ideal) (w : FVec Ideal S256x2048 .f32) (i : Fin 64) (k : Fin 2048) :
    dotR x w (ix2 i k) = ∑ j : Fin 256, x (ix2 i j) * w (ix2 j k) := by
  unfold dotR; rw [shapeCast_self]
  exact (Ideal.matmul_plain_apply _ _ _ _ i k).trans (by rw [zero_apply]; exact zero_add _)
theorem reluV_apply (t : HV Ideal) (i : S64x2048.Idx) : reluV t i = max (t i) (0 : EReal) := by
  unfold reluV; rw [ValueIdx.maximumf_apply]; exact congrArg (max (t i)) Ideal.ofBits_zero_f32

theorem colR_idx (ch : Fin 4) (k : Fin 2048) (j : Fin 256) : (colR ch).idx (ix2 k j) = (ix2 k (hcol ch j) : S2048x1024.Idx) :=
  Shape.idx_ext₂ (by show 0 + 1 * k.val = k.val; omega) (by show ch.val * 256 + 1 * j.val = ch.val * 256 + j.val; omega)
theorem rowR_idx (ch : Fin 4) (j : Fin 256) (k : Fin 2048) : (rowR ch).idx (ix2 j k) = (ix2 (hcol ch j) k : S1024x2048.Idx) :=
  Shape.idx_ext₂ (by show ch.val * 256 + 1 * j.val = ch.val * 256 + j.val; omega) (by show 0 + 1 * k.val = k.val; omega)
theorem dotC_cols (h : HV Ideal) (w : Vec Ideal S2048x1024 .f32) (ch : Fin 4) (i : Fin 64) (j : Fin 256) :
    dotC h (View.ld w (colR ch)) (ix2 i j) = ∑ k : Fin 2048, h (ix2 i k) * w (ix2 k (hcol ch j)) :=
  (dotC_apply _ _ i j).trans (Finset.sum_congr rfl fun k _ => congrArg (fun t => h (ix2 i k) * w t) (colR_idx ch k j))
theorem dotR_rows (x : CV Ideal) (w : Vec Ideal S1024x2048 .f32) (ch : Fin 4) (i : Fin 64) (k : Fin 2048) :
    dotR x (View.ld w (rowR ch)) (ix2 i k) = ∑ j : Fin 256, x (ix2 i j) * w (ix2 (hcol ch j) k) :=
  (dotR_apply _ _ i k).trans (Finset.sum_congr rfl fun j _ => congrArg (fun t => x (ix2 i j) * w t) (rowR_idx ch j k))

/-- A device's columns of the first matrix, and its rows of the second. -/
theorem winBlock_apply (W : WinW) (c : Dev nD) (j : Fin 1024) (k : Fin 2048) :
    Layout.block ⟨2, ![1024, 2048]⟩ ⟨2, ![1024, 8192]⟩ 1 4 c W (by decide) (ix2 j k) = W (ix2 j (gcol c k)) := by
  rw [Layout.block_apply]
  exact congrArg W (Shape.idx_ext₂ (Layout.Tiles.idx_val ..) (Layout.Tiles.idx_val ..))
theorem woutBlock_apply (V : WoutW) (c : Dev nD) (k : Fin 2048) (j : Fin 1024) :
    Layout.block ⟨2, ![2048, 1024]⟩ ⟨2, ![8192, 1024]⟩ 0 4 c V (by decide) (ix2 k j) = V (ix2 (gcol c k) j) := by
  rw [Layout.block_apply]
  exact congrArg V (Shape.idx_ext₂ (Layout.Tiles.idx_val ..) (Layout.Tiles.idx_val ..))

/-! ## One layer -/

/-- A device's hidden activations are its columns of the whole ones. -/
theorem relu_dotX (X : XW) (W : WinW) (c : Dev nD) (i : Fin 64) (k : Fin 2048) :
    reluV (dotX X (Layout.block ⟨2, ![1024, 2048]⟩ ⟨2, ![1024, 8192]⟩ 1 4 c W (by decide))) (ix2 i k) = hidW X W (ix2 i (gcol c k)) := by
  rw [reluV_apply, dotX_apply, hidW_apply]; simp only [winBlock_apply]

/-- The product taken chunk by chunk is the product. -/
theorem hid_eq (M : Sent Ideal) (l : Fin 3) (c : Dev nD) (w : FVec Ideal S1024x2048 .f32) (X : XW)
    (hX : ∀ ch i j, resC M l c ch (ix2 i j) = X (ix2 i (hcol ch j))) : hid M l c w = reluV (dotX X w) := by
  suffices h : ∀ (i : Fin 64) (k : Fin 2048), hid M l c w (ix2 i k) = reluV (dotX X w) (ix2 i k) by
    funext y
    exact (congrArg (hid M l c w) (eq_ix2 y)).trans ((h (y (0 : Fin 2)) (y (1 : Fin 2))).trans (congrArg (reluV (dotX (F := Ideal) X w)) (eq_ix2 y)).symm)
  intro i k
  unfold hid
  rw [reluV_apply, reluV_apply, dotX_apply, Fin.sum_univ_tiles 4 256 (by norm_num), Fin.sum_univ_four]
  simp only [addf_apply, dotR_rows, hX]
  rfl

/-- The two stages add every device's product. -/
theorem resC_eq (H : HidW) (V : WoutW) (h : Dev nD → HV Ideal) (w : Dev nD → FVec Ideal S2048x1024 .f32)
    (hh : ∀ c i k, h c (ix2 i k) = H (ix2 i (gcol c k)))
    (hw : ∀ c, w c = Layout.block ⟨2, ![2048, 1024]⟩ ⟨2, ![8192, 1024]⟩ 0 4 c V (by decide))
    (l : Fin 3) (c : Dev nD) (ch : Fin 4) (i : Fin 64) (j : Fin 256) :
    resC (fun _ => layerSent h w) l c ch (ix2 i j) = outW H V (ix2 i (hcol ch j)) := by
  let part : Dev nD → EReal := fun d => ∑ k : Fin 2048, H (ix2 i (gcol d k)) * V (ix2 (gcol d k) (hcol ch j))
  have hp : ∀ d, dotC (h d) (View.ld (w d) (colR ch)) (ix2 i j) = part d := fun d => by
    rw [dotC_cols]; simp only [hw, hh, woutBlock_apply]; rfl
  have hs : ∀ d, layerSent h w 1 ch d (ix2 i j) = part d + part (peer 0 d) := fun d => by
    rw [← hp, ← hp]; rfl
  have hr : resC (fun _ => layerSent h w) l c ch (ix2 i j) = (part c + part (peer 0 c)) + (part (peer 1 c) + part (peer 0 (peer 1 c))) := by
    rw [← hs, ← hs]; rfl
  have ht : outW H V (ix2 i (hcol ch j)) = part 0 + part 1 + part 2 + part 3 := by
    rw [outW_apply, Fin.sum_univ_tiles 4 2048 (by norm_num), Fin.sum_univ_four]; rfl
  rw [hr, ht]
  match c with
  | 0 => rw [show peer 0 (0 : Dev nD) = 1 from rfl, show peer 1 (0 : Dev nD) = 3 from rfl, show peer 0 (3 : Dev nD) = 2 from rfl]; abel
  | 1 => rw [show peer 0 (1 : Dev nD) = 0 from rfl, show peer 1 (1 : Dev nD) = 2 from rfl, show peer 0 (2 : Dev nD) = 3 from rfl]; abel
  | 2 => rw [show peer 0 (2 : Dev nD) = 3 from rfl, show peer 1 (2 : Dev nD) = 1 from rfl, show peer 0 (1 : Dev nD) = 0 from rfl]; abel
  | 3 => rw [show peer 0 (3 : Dev nD) = 2 from rfl, show peer 1 (3 : Dev nD) = 0 from rfl, show peer 0 (0 : Dev nD) = 1 from rfl]; abel

/-- The stored chunks are the whole result. -/
theorem resV_eq (M : Sent Ideal) (l : Fin 3) (c : Dev nD) (X : XW)
    (hX : ∀ ch i j, resC M l c ch (ix2 i j) = X (ix2 i (hcol ch j))) : resV M l c = X := by
  funext y
  have hy : (y (1 : Fin 2)).val < 1024 := (y (1 : Fin 2)).isLt
  have h := hX ⟨(y (1 : Fin 2)).val / 256, by omega⟩ (y (0 : Fin 2)) ⟨(y (1 : Fin 2)).val % 256, Nat.mod_lt _ (by decide)⟩
  have e : (ix2 (y (0 : Fin 2)) (hcol ⟨(y (1 : Fin 2)).val / 256, by omega⟩ ⟨(y (1 : Fin 2)).val % 256, Nat.mod_lt _ (by decide)⟩) : S64x1024.Idx) = y :=
    Shape.idx_ext₂ rfl (Nat.div_add_mod' _ _)
  refine Eq.trans ?_ (h.trans (congrArg X e))
  unfold resV
  refine congrArg (resC M l c _) (funext fun a => ?_)
  match a with
  | ⟨0, _⟩ => rfl
  | ⟨1, _⟩ => rfl

theorem resC_last (A : Args Ideal) (c : Dev nD) (ch : Fin 4) :
    resC (sent A) 2 c ch = resC (fun _ => layerSent (hid2 A) (A.wout 2)) 2 c ch := by
  unfold resC; rfl

/-! ## The three layers -/

variable (m : (ℓ : Loc nD τ sig) → Buf (Elt Ideal) ℓ) (X : XW) (W0 W1 W2 : WinW) (V0 V1 V2 : WoutW)

/-- The devices hold their parts of the whole arrays. -/
structure Holds : Prop where
  x : ∀ c : Dev nD, m ((c : Thread nD τ).loc main_arg0) = X
  win0 : ∀ c : Dev nD, m ((c : Thread nD τ).loc main_arg1) = Layout.block ⟨2, ![1024, 2048]⟩ ⟨2, ![1024, 8192]⟩ 1 4 c W0
  win1 : ∀ c : Dev nD, m ((c : Thread nD τ).loc main_arg2) = Layout.block ⟨2, ![1024, 2048]⟩ ⟨2, ![1024, 8192]⟩ 1 4 c W1
  win2 : ∀ c : Dev nD, m ((c : Thread nD τ).loc main_arg3) = Layout.block ⟨2, ![1024, 2048]⟩ ⟨2, ![1024, 8192]⟩ 1 4 c W2
  wout0 : ∀ c : Dev nD, m ((c : Thread nD τ).loc main_arg4) = Layout.block ⟨2, ![2048, 1024]⟩ ⟨2, ![8192, 1024]⟩ 0 4 c V0
  wout1 : ∀ c : Dev nD, m ((c : Thread nD τ).loc main_arg5) = Layout.block ⟨2, ![2048, 1024]⟩ ⟨2, ![8192, 1024]⟩ 0 4 c V1
  wout2 : ∀ c : Dev nD, m ((c : Thread nD τ).loc main_arg6) = Layout.block ⟨2, ![2048, 1024]⟩ ⟨2, ![8192, 1024]⟩ 0 4 c V2

variable {m X W0 W1 W2 V0 V1 V2} (hm : Holds m X W0 W1 W2 V0 V1 V2)
include hm

theorem hid0_apply (c : Dev nD) (i : Fin 64) (k : Fin 2048) : hid0 (args m) c (ix2 i k) = hidW X W0 (ix2 i (gcol c k)) := by
  unfold hid0
  rw [View.ld_unit_zero (S := S64x1024) (off := ![0, 0]) (by decide), View.ld_unit_zero (S := S1024x2048) (off := ![0, 0]) (by decide),
    args_x, args_win0, hm.x, hm.win0]
  exact relu_dotX X W0 c i k

theorem hid1_apply (c : Dev nD) (i : Fin 64) (k : Fin 2048) :
    hid1 (args m) c (ix2 i k) = hidW (outW (hidW X W0) V0) W1 (ix2 i (gcol c k)) := by
  have h : hid1 (args m) c = reluV (dotX (outW (hidW X W0) V0) ((args m).win 1 c)) :=
    hid_eq (fun _ => sent0 (args m)) 0 c _ (outW (hidW X W0) V0)
      (resC_eq (hidW X W0) V0 _ _ (hid0_apply hm) (fun d => (args_wout0 m d).trans (hm.wout0 d)) 0 c)
  rw [h, args_win1, hm.win1]
  exact relu_dotX _ W1 c i k

theorem hid2_apply (c : Dev nD) (i : Fin 64) (k : Fin 2048) :
    hid2 (args m) c (ix2 i k) = hidW (outW (hidW (outW (hidW X W0) V0) W1) V1) W2 (ix2 i (gcol c k)) := by
  have h : hid2 (args m) c = reluV (dotX (outW (hidW (outW (hidW X W0) V0) W1) V1) ((args m).win 2 c)) :=
    hid_eq (fun _ => sent1 (args m)) 1 c _ (outW (hidW (outW (hidW X W0) V0) W1) V1)
      (resC_eq _ V1 _ _ (hid1_apply hm) (fun d => (args_wout1 m d).trans (hm.wout1 d)) 1 c)
  rw [h, args_win2, hm.win2]
  exact relu_dotX _ W2 c i k

/-- Every device ends with the whole network's result. -/
theorem outAt_eq (c : Dev nD) :
    outAt m c = outW (hidW (outW (hidW (outW (hidW X W0) V0) W1) V1) W2) V2 :=
  resV_eq (theSent m) 2 c _ fun ch i j => (congrFun (resC_last (args m) c ch) (ix2 i j)).trans
    (resC_eq _ V2 _ _ (hid2_apply hm) (fun d => (args_wout2 m d).trans (hm.wout2 d)) 2 c ch i j)

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.KernelIdealValue
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ =>
  (θ_run Cert.Kernel.defs _ _).mono (fun _ h => ⟨fun c => (h.1 c).2, h.2⟩) (Cert.KernelProof.run_values m ρ)

theorem frame_kernelIdeal : Cert.quiescent_KernelIdeal := fun m ρ _ =>
  (θ_run Cert.KernelIdeal.defs _ _).mono (fun _ h => ⟨fun c => (h.1 c).2, h.2⟩) (Cert.KernelIdealProof.run_values m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

open Cert.KernelIdealProof in
/-- One layer of the reference, as the whole products. -/
theorem reference_layer (X : XW) (W : WinW) (V : WoutW) :
    Host.dotGeneral Cert.ReferenceIdeal.dot_S64x8192_S8192x1024_S64x1024_1_0_0_1_n_n none
      (maximumf (Host.dotGeneral Cert.ReferenceIdeal.dot_S64x1024_S1024x8192_S64x8192_1_0_0_1_n_n none X W)
        (broadcastInDim Cert.ReferenceIdeal.S64x8192 ![] Cert.ReferenceIdeal.Gen.facts.bcast_S_S64x8192 (constant Cert.ReferenceIdeal.S_ .f32 0x00000000#32))) V
      = outW (hidW X W) V :=
  congrArg (fun Z : HidW => outW (maximumf (Host.dotGeneral (DotDims.plain 64 1024 8192) none X W) Z) V)
    (funext fun _ => Ideal.ofBits_zero_f32)

theorem value : Cert.algebraic_KernelIdeal_ReferenceIdeal := fun m g m' g' _ hm => by
  have H : Cert.KernelIdealProof.Holds m _ _ _ _ _ _ _ :=
    ⟨fun c => (hm c).1, fun c => (hm c).2.1, fun c => (hm c).2.2.1, fun c => (hm c).2.2.2.1,
      fun c => (hm c).2.2.2.2.1, fun c => (hm c).2.2.2.2.2.1, fun c => (hm c).2.2.2.2.2.2⟩
  refine ⟨_, (θ_run Cert.KernelIdeal.defs _ _).mono (fun _ h c => ⟨(h.1 c).1.trans (Cert.KernelIdealProof.outAt_eq H c), (h.1 c).2⟩)
      (Cert.KernelIdealProof.run_values m g),
    (θ_run Cert.ReferenceIdeal.defs _ _).mono (fun _ h => ⟨(h 0).1.trans ?_, (h 0).2⟩) (Cert.ReferenceIdeal.Value.run m' g')⟩
  rw [reference_layer, reference_layer, reference_layer]

theorem claim : Cert.Claim :=
  ⟨Cert.Kernel.Gen.facts, Cert.KernelIdeal.Gen.facts, Cert.ReferenceIdeal.Gen.facts,
    frame_kernel, frame_kernelIdeal, frame_referenceIdeal, trivial, value⟩

end Cert.Proof

end
